-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S4x256x1 : Shape := ⟨3, ![4, 256, 1]⟩
abbrev S_ : Shape := ⟨0, ![]⟩
abbrev S4 : Shape := ⟨1, ![4]⟩
abbrev S1x1x4 : Shape := ⟨3, ![1, 1, 4]⟩
abbrev S4x256x4 : Shape := ⟨3, ![4, 256, 4]⟩
abbrev S4x4 : Shape := ⟨2, ![4, 4]⟩

class Facts : Prop where
  shapeCasts_S1024x1_S4x256x1 : S1024x1.ShapeCasts S4x256x1
  bcast_S_S4x256x1 : S_.BroadcastsInDim S4x256x1 (![] : Fin 0 → Fin S4x256x1.rank)
  bcast_S4_S1x1x4_2 : S4.BroadcastsInDim S1x1x4 (![2] : Fin 1 → Fin S1x1x4.rank)
  bcast_S4x256x1_S4x256x4_0_1_2 : S4x256x1.BroadcastsInDim S4x256x4 (![0, 1, 2] : Fin 3 → Fin S4x256x4.rank)
  bcast_S1x1x4_S4x256x4_0_1_2 : S1x1x4.BroadcastsInDim S4x256x4 (![0, 1, 2] : Fin 3 → Fin S4x256x4.rank)
  bcast_S_S4x256x4 : S_.BroadcastsInDim S4x256x4 (![] : Fin 0 → Fin S4x256x4.rank)
  reducesTo_S4x256x4_S4x4_d1 : S4x256x4.ReducesTo [1] S4x4
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x16 : S_.BroadcastsInDim S512x16 (![] : Fin 0 → Fin S512x16.rank)
  reducesTo_S512x16_S_d0_1 : S512x16.ReducesTo [0, 1] S_
  bcast_S_S4x4 : S_.BroadcastsInDim S4x4 (![] : Fin 0 → Fin S4x4.rank)
  reducesTo_S4x4_S_d0_1 : S4x4.ReducesTo [0, 1] S_

variable [Facts]

def fn_where {F : FTy → Type} [FloatOps F] (arg0 : IVec S4x256x4 1) (arg1 : IVec S_ 32) (arg2 : IVec S_ 32) : IVec S4x256x4 32 :=
  let v0 : IVec S4x256x4 32 := broadcastInDim S4x256x4 ![] bcast_S_S4x256x4 arg1
  let v1 : IVec S4x256x4 32 := broadcastInDim S4x256x4 ![] bcast_S_S4x256x4 arg2
  let v2 : IVec S4x256x4 32 := select arg0 v0 v1
  v2

def fn_part1 {F : FTy → Type} [FloatOps F] (main_v10 : IVec S4x4 32) (main_v14 : IVec S_ 1) (main_v15 : FVec F S512x16 .f32) (main_v16 : FVec F S512x16 .f32) : IVec S_ 1 :=
  let main_v17 : IVec S512x16 1 := cmpf .olt main_v15 main_v16
  let main_c_5 : IVec S_ 1 := constantI S_ 1 1#1
  let main_v18 : IVec S_ 1 := (fun x v => Host.reduce IntOp.andi x v reducesTo_S512x16_S_d0_1 h_S_) main_v17 main_c_5
  let main_v19 : IVec S_ 1 := andi main_v14 main_v18
  let main_c_6 : IVec S_ 32 := constantI S_ 32 96#32
  let main_v20 : IVec S4x4 32 := broadcastInDim S4x4 ![] bcast_S_S4x4 main_c_6
  let main_v21 : IVec S4x4 1 := cmpi .sle main_v10 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v22 main_v19
  main_v23

def fn {F : FTy → Type} [FloatOps F] (main_arg0 : FVec F S1024x512 .f32) (main_arg1 : FVec F S512x16 .f32) (main_arg2 : IVec S1024x1 32) (main_arg3 : FVec F S4x512x1024 .f32) (main_arg4 : FVec F S512x1024 .f32) : IVec S_ 1 :=
  let main_v0 : IVec S4x256x1 32 := shapeCast S4x256x1 main_arg2 shapeCasts_S1024x1_S4x256x1
  let main_c : IVec S_ 32 := constantI S_ 32 4#32
  let main_v1 : IVec S4x256x1 32 := broadcastInDim S4x256x1 ![] bcast_S_S4x256x1 main_c
  let main_v2 : IVec S4x256x1 32 := Host.divsi main_v0 main_v1
  let main_v3 : IVec S4 32 := iotaInDim S4 32 0
  let main_v4 : IVec S1x1x4 32 := broadcastInDim S1x1x4 ![2] bcast_S4_S1x1x4_2 main_v3
  let main_v5 : IVec S4x256x4 32 := broadcastInDim S4x256x4 ![0, 1, 2] bcast_S4x256x1_S4x256x4_0_1_2 main_v2
  let main_v6 : IVec S4x256x4 32 := broadcastInDim S4x256x4 ![0, 1, 2] bcast_S1x1x4_S4x256x4_0_1_2 main_v4
  let main_v7 : IVec S4x256x4 1 := cmpi .eq main_v5 main_v6
  let main_c_0 : IVec S_ 32 := constantI S_ 32 1#32
  let main_c_1 : IVec S_ 32 := constantI S_ 32 0#32
  let main_v8 : IVec S4x256x4 32 := fn_where (F := F) main_v7 main_c_0 main_c_1
  let main_v9 : IVec S4x256x4 32 := id main_v8
  let main_c_2 : IVec S_ 32 := constantI S_ 32 0#32
  let main_v10 : IVec S4x4 32 := (fun x v => Host.reduce IntOp.addi x v reducesTo_S4x256x4_S4x4_d1 h_S_) main_v9 main_c_2
  let main_v11 : FVec F S1024x512 .f32 := Host.absf main_arg0
  let main_cst : FVec F S_ .f32 := constant S_ .f32 0x7F800000#32
  let main_v12 : FVec F S1024x512 .f32 := broadcastInDim S1024x512 ![] bcast_S_S1024x512 main_cst
  let main_v13 : IVec S1024x512 1 := cmpf .olt main_v11 main_v12
  let main_c_3 : IVec S_ 1 := constantI S_ 1 1#1
  let main_v14 : IVec S_ 1 := (fun x v => Host.reduce IntOp.andi x v reducesTo_S1024x512_S_d0_1 h_S_) main_v13 main_c_3
  let main_v15 : FVec F S512x16 .f32 := Host.absf main_arg1
  let main_cst_4 : FVec F S_ .f32 := constant S_ .f32 0x7F800000#32
  let main_v16 : FVec F S512x16 .f32 := broadcastInDim S512x16 ![] bcast_S_S512x16 main_cst_4
  fn_part1 (F := F) main_v10 main_v14 main_v15 main_v16
-- ==== Pre_fits_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S4x256x1 : Shape := ⟨3, ![4, 256, 1]⟩
abbrev S_ : Shape := ⟨0, ![]⟩
abbrev S4 : Shape := ⟨1, ![4]⟩
abbrev S1x1x4 : Shape := ⟨3, ![1, 1, 4]⟩
abbrev S4x256x4 : Shape := ⟨3, ![4, 256, 4]⟩
abbrev S4x4 : Shape := ⟨2, ![4, 4]⟩

class Facts : Prop where
  shapeCasts_S1024x1_S4x256x1 : S1024x1.ShapeCasts S4x256x1
  bcast_S_S4x256x1 : S_.BroadcastsInDim S4x256x1 (![] : Fin 0 → Fin S4x256x1.rank)
  bcast_S4_S1x1x4_2 : S4.BroadcastsInDim S1x1x4 (![2] : Fin 1 → Fin S1x1x4.rank)
  bcast_S4x256x1_S4x256x4_0_1_2 : S4x256x1.BroadcastsInDim S4x256x4 (![0, 1, 2] : Fin 3 → Fin S4x256x4.rank)
  bcast_S1x1x4_S4x256x4_0_1_2 : S1x1x4.BroadcastsInDim S4x256x4 (![0, 1, 2] : Fin 3 → Fin S4x256x4.rank)
  bcast_S_S4x256x4 : S_.BroadcastsInDim S4x256x4 (![] : Fin 0 → Fin S4x256x4.rank)
  reducesTo_S4x256x4_S4x4_d1 : S4x256x4.ReducesTo [1] S4x4
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x16 : S_.BroadcastsInDim S512x16 (![] : Fin 0 → Fin S512x16.rank)
  reducesTo_S512x16_S_d0_1 : S512x16.ReducesTo [0, 1] S_
  bcast_S_S4x4 : S_.BroadcastsInDim S4x4 (![] : Fin 0 → Fin S4x4.rank)
  reducesTo_S4x4_S_d0_1 : S4x4.ReducesTo [0, 1] S_

variable [Facts]

def fn_where {F : FTy → Type} [FloatOps F] (arg0 : IVec S4x256x4 1) (arg1 : IVec S_ 32) (arg2 : IVec S_ 32) : IVec S4x256x4 32 :=
  let v0 : IVec S4x256x4 32 := broadcastInDim S4x256x4 ![] bcast_S_S4x256x4 arg1
  let v1 : IVec S4x256x4 32 := broadcastInDim S4x256x4 ![] bcast_S_S4x256x4 arg2
  let v2 : IVec S4x256x4 32 := select arg0 v0 v1
  v2

def fn_part1 {F : FTy → Type} [FloatOps F] (main_v10 : IVec S4x4 32) (main_v14 : IVec S_ 1) (main_v15 : FVec F S512x16 .f32) (main_v16 : FVec F S512x16 .f32) : IVec S_ 1 :=
  let main_v17 : IVec S512x16 1 := cmpf .olt main_v15 main_v16
  let main_c_5 : IVec S_ 1 := constantI S_ 1 1#1
  let main_v18 : IVec S_ 1 := (fun x v => Host.reduce IntOp.andi x v reducesTo_S512x16_S_d0_1 h_S_) main_v17 main_c_5
  let main_v19 : IVec S_ 1 := andi main_v14 main_v18
  let main_c_6 : IVec S_ 32 := constantI S_ 32 96#32
  let main_v20 : IVec S4x4 32 := broadcastInDim S4x4 ![] bcast_S_S4x4 main_c_6
  let main_v21 : IVec S4x4 1 := cmpi .sle main_v10 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v22 main_v19
  main_v23

def fn {F : FTy → Type} [FloatOps F] (main_arg0 : FVec F S1024x512 .f32) (main_arg1 : FVec F S512x16 .f32) (main_arg2 : IVec S1024x1 32) (main_arg3 : FVec F S16x512x1024 .f32) (main_arg4 : FVec F S512x1024 .f32) : IVec S_ 1 :=
  let main_v0 : IVec S4x256x1 32 := shapeCast S4x256x1 main_arg2 shapeCasts_S1024x1_S4x256x1
  let main_c : IVec S_ 32 := constantI S_ 32 4#32
  let main_v1 : IVec S4x256x1 32 := broadcastInDim S4x256x1 ![] bcast_S_S4x256x1 main_c
  let main_v2 : IVec S4x256x1 32 := Host.divsi main_v0 main_v1
  let main_v3 : IVec S4 32 := iotaInDim S4 32 0
  let main_v4 : IVec S1x1x4 32 := broadcastInDim S1x1x4 ![2] bcast_S4_S1x1x4_2 main_v3
  let main_v5 : IVec S4x256x4 32 := broadcastInDim S4x256x4 ![0, 1, 2] bcast_S4x256x1_S4x256x4_0_1_2 main_v2
  let main_v6 : IVec S4x256x4 32 := broadcastInDim S4x256x4 ![0, 1, 2] bcast_S1x1x4_S4x256x4_0_1_2 main_v4
  let main_v7 : IVec S4x256x4 1 := cmpi .eq main_v5 main_v6
  let main_c_0 : IVec S_ 32 := constantI S_ 32 1#32
  let main_c_1 : IVec S_ 32 := constantI S_ 32 0#32
  let main_v8 : IVec S4x256x4 32 := fn_where (F := F) main_v7 main_c_0 main_c_1
  let main_v9 : IVec S4x256x4 32 := id main_v8
  let main_c_2 : IVec S_ 32 := constantI S_ 32 0#32
  let main_v10 : IVec S4x4 32 := (fun x v => Host.reduce IntOp.addi x v reducesTo_S4x256x4_S4x4_d1 h_S_) main_v9 main_c_2
  let main_v11 : FVec F S1024x512 .f32 := Host.absf main_arg0
  let main_cst : FVec F S_ .f32 := constant S_ .f32 0x7F800000#32
  let main_v12 : FVec F S1024x512 .f32 := broadcastInDim S1024x512 ![] bcast_S_S1024x512 main_cst
  let main_v13 : IVec S1024x512 1 := cmpf .olt main_v11 main_v12
  let main_c_3 : IVec S_ 1 := constantI S_ 1 1#1
  let main_v14 : IVec S_ 1 := (fun x v => Host.reduce IntOp.andi x v reducesTo_S1024x512_S_d0_1 h_S_) main_v13 main_c_3
  let main_v15 : FVec F S512x16 .f32 := Host.absf main_arg1
  let main_cst_4 : FVec F S_ .f32 := constant S_ .f32 0x7F800000#32
  let main_v16 : FVec F S512x16 .f32 := broadcastInDim S512x16 ![] bcast_S_S512x16 main_cst_4
  fn_part1 (F := F) main_v10 main_v14 main_v15 main_v16
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S256x1024 : Shape := ⟨2, ![256, 1024]⟩
abbrev S3x96x1024 : Shape := ⟨3, ![3, 96, 1024]⟩
abbrev S5 : Shape := ⟨1, ![5]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S1024x16 : Shape := ⟨2, ![1024, 16]⟩
abbrev S1024 : Shape := ⟨1, ![1024]⟩
abbrev S256x256 : Shape := ⟨2, ![256, 256]⟩
abbrev S256x96 : Shape := ⟨2, ![256, 96]⟩
abbrev S256x1 : Shape := ⟨2, ![256, 1]⟩
abbrev S256x512 : Shape := ⟨2, ![256, 512]⟩
abbrev S96x512 : Shape := ⟨2, ![96, 512]⟩
abbrev S96x1 : Shape := ⟨2, ![96, 1]⟩
abbrev S96x1024 : Shape := ⟨2, ![96, 1024]⟩
abbrev S1x96x1024 : Shape := ⟨3, ![1, 96, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S256x1024, .f32⟩
  | .local _ .vmem, ⟨0, _⟩ => ⟨S1024x512, .f32⟩
  | .local _ .vmem, ⟨1, _⟩ => ⟨S512x16, .f32⟩
  | .local _ .vmem, ⟨2, _⟩ => ⟨S1024x1, .i32⟩
  | .local _ .vmem, ⟨3, _⟩ => ⟨S256x1024, .f32⟩
  | .local _ .vmem, ⟨4, _⟩ => ⟨S4x512x1024, .f32⟩
  | .local _ .vmem, ⟨5, _⟩ => ⟨S4x512x1024, .bf16⟩
  | .local _ .vmem, ⟨6, _⟩ => ⟨S512x1024, .f32⟩
  | .local _ .vmem, ⟨7, _⟩ => ⟨S1024x512, .bf16⟩
  | .local _ .vmem, ⟨8, _⟩ => ⟨S1024x1, .bf16⟩
  | .local _ .vmem, ⟨9, _⟩ => ⟨S3x96x1024, .bf16⟩
  | .local _ .vmem, ⟨10, _⟩ => ⟨S3x96x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v30 : BitVec 32 := Scalar.addi v2 c1_i32_26
  let c4_i32_27 : BitVec 32 := 4#32
  let c0_i32_28 : BitVec 32 := 0#32
  let v31 : BitVec 1 := Scalar.cmpi .eq c4_i32_27 c0_i32_28
  let c1_i32_29 : BitVec 32 := 1#32
  let v32 : BitVec 32 := Scalar.select v31 c1_i32_29 c4_i32_27
  let v33 : BitVec 32 := Scalar.remsi v30 v32
  let c0_i32_31 : BitVec 32 := 0#32
  let v35 : BitVec 1 := Scalar.cmpi .slt v33 c0_i32_31
  let c0_i32_32 : BitVec 32 := 0#32
  let v36 : BitVec 1 := Scalar.cmpi .slt v32 c0_i32_32
  let v37 : BitVec 1 := Scalar.xori v35 v36
  let c0_i32_30 : BitVec 32 := 0#32
  let v34 : BitVec 1 := Scalar.cmpi .ne v33 c0_i32_30
  let v38 : BitVec 1 := Scalar.andi v37 v34
  let v39 : BitVec 32 := Scalar.addi v33 v32
  let v40 : BitVec 32 := Scalar.select v38 v39 v33
  let c1_i32_34 : BitVec 32 := 1#32
  let v41 : BitVec 32 := Scalar.muli v40 c1_i32_34
  let v42 : BitVec 32 := Scalar.addi c0_i32_35 v41
  v42.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v43 : BitVec 32 := Scalar.addi v2 c2_i32_36
  let c4_i32_37 : BitVec 32 := 4#32
  let c0_i32_38 : BitVec 32 := 0#32
  let v44 : BitVec 1 := Scalar.cmpi .eq c4_i32_37 c0_i32_38
  let c1_i32_39 : BitVec 32 := 1#32
  let v45 : BitVec 32 := Scalar.select v44 c1_i32_39 c4_i32_37
  let v46 : BitVec 32 := Scalar.remsi v43 v45
  let c0_i32_41 : BitVec 32 := 0#32
  let v48 : BitVec 1 := Scalar.cmpi .slt v46 c0_i32_41
  let c0_i32_42 : BitVec 32 := 0#32
  let v49 : BitVec 1 := Scalar.cmpi .slt v45 c0_i32_42
  let v50 : BitVec 1 := Scalar.xori v48 v49
  let c0_i32_40 : BitVec 32 := 0#32
  let v47 : BitVec 1 := Scalar.cmpi .ne v46 c0_i32_40
  let v51 : BitVec 1 := Scalar.andi v50 v47
  let v52 : BitVec 32 := Scalar.addi v46 v45
  let v53 : BitVec 32 := Scalar.select v51 v52 v46
  let c1_i32_44 : BitVec 32 := 1#32
  let v54 : BitVec 32 := Scalar.muli v53 c1_i32_44
  let v55 : BitVec 32 := Scalar.addi c0_i32_45 v54
  v55.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v56 : BitVec 32 := Scalar.addi v2 c3_i32_46
  let c4_i32_47 : BitVec 32 := 4#32
  let c0_i32_48 : BitVec 32 := 0#32
  let v57 : BitVec 1 := Scalar.cmpi .eq c4_i32_47 c0_i32_48
  let c1_i32_49 : BitVec 32 := 1#32
  let v58 : BitVec 32 := Scalar.select v57 c1_i32_49 c4_i32_47
  let v59 : BitVec 32 := Scalar.remsi v56 v58
  let c0_i32_51 : BitVec 32 := 0#32
  let v61 : BitVec 1 := Scalar.cmpi .slt v59 c0_i32_51
  let c0_i32_52 : BitVec 32 := 0#32
  let v62 : BitVec 1 := Scalar.cmpi .slt v58 c0_i32_52
  let v63 : BitVec 1 := Scalar.xori v61 v62
  let c0_i32_50 : BitVec 32 := 0#32
  let v60 : BitVec 1 := Scalar.cmpi .ne v59 c0_i32_50
  let v64 : BitVec 1 := Scalar.andi v63 v60
  let v65 : BitVec 32 := Scalar.addi v59 v58
  let v66 : BitVec 32 := Scalar.select v64 v65 v59
  let c1_i32_54 : BitVec 32 := 1#32
  let v67 : BitVec 32 := Scalar.muli v66 c1_i32_54
  let v68 : BitVec 32 := Scalar.addi c0_i32_55 v67
  v68.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v110 : BitVec 32 := Scalar.muli v2 c256_i32
  let v123 : Index := Scalar.indexCast v110
  let c0_80 : Index := 0#32
  ![v123.toNat, 0]
def k0_off2 (d0 : Dev nD) (c1_i32_121 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v216 : BitVec 32 := Scalar.addi v2 c1_i32_120
  let v217 : BitVec 32 := Scalar.addi v216 c1_i32_121
  let c4_i32_122 : BitVec 32 := 4#32
  let c0_i32_123 : BitVec 32 := 0#32
  let v218 : BitVec 1 := Scalar.cmpi .eq c4_i32_122 c0_i32_123
  let c1_i32_124 : BitVec 32 := 1#32
  let v219 : BitVec 32 := Scalar.select v218 c1_i32_124 c4_i32_122
  let v220 : BitVec 32 := Scalar.remsi v217 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c256_i32_128 : BitVec 32 := 256#32
  let v228 : BitVec 32 := Scalar.muli v227 c256_i32_128
  let v229 : Index := Scalar.indexCast v228
  let c0_129 : Index := 0#32
  ![v229.toNat, 0]
def k0_off3 (d0 : Dev nD) (c1_i32_121 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v216 : BitVec 32 := Scalar.addi v2 c1_i32_120
  let v217 : BitVec 32 := Scalar.addi v216 c1_i32_121
  let c4_i32_122 : BitVec 32 := 4#32
  let c0_i32_123 : BitVec 32 := 0#32
  let v218 : BitVec 1 := Scalar.cmpi .eq c4_i32_122 c0_i32_123
  let c1_i32_124 : BitVec 32 := 1#32
  let v219 : BitVec 32 := Scalar.select v218 c1_i32_124 c4_i32_122
  let v220 : BitVec 32 := Scalar.remsi v217 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c256_i32_128 : BitVec 32 := 256#32
  let v228 : BitVec 32 := Scalar.muli v227 c256_i32_128
  let v252 : Index := Scalar.indexCast v228
  let c0_137 : Index := 0#32
  ![v252.toNat, 0]
def k0_dev4 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v216 : BitVec 32 := Scalar.addi v2 c1_i32_120
  let c1_i32_121 : BitVec 32 := 1#32
  let v217 : BitVec 32 := Scalar.addi v216 c1_i32_121
  let c4_i32_122 : BitVec 32 := 4#32
  let c0_i32_123 : BitVec 32 := 0#32
  let v218 : BitVec 1 := Scalar.cmpi .eq c4_i32_122 c0_i32_123
  let c1_i32_124 : BitVec 32 := 1#32
  let v219 : BitVec 32 := Scalar.select v218 c1_i32_124 c4_i32_122
  let v220 : BitVec 32 := Scalar.remsi v217 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c1_i32_230 : BitVec 32 := 1#32
  let v372 : BitVec 32 := Scalar.muli v227 c1_i32_230
  let v373 : BitVec 32 := Scalar.addi c0_i32_231 v372
  v373.toNat
def k0_dev5 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let v382 : BitVec 32 := Scalar.addi v2 c1_i32_236
  let c0_i32_237 : BitVec 32 := 0#32
  let v383 : BitVec 32 := Scalar.addi v382 c0_i32_237
  let c4_i32_238 : BitVec 32 := 4#32
  let c0_i32_239 : BitVec 32 := 0#32
  let v384 : BitVec 1 := Scalar.cmpi .eq c4_i32_238 c0_i32_239
  let c1_i32_240 : BitVec 32 := 1#32
  let v385 : BitVec 32 := Scalar.select v384 c1_i32_240 c4_i32_238
  let v386 : BitVec 32 := Scalar.remsi v383 v385
  let c0_i32_242 : BitVec 32 := 0#32
  let v388 : BitVec 1 := Scalar.cmpi .slt v386 c0_i32_242
  let c0_i32_243 : BitVec 32 := 0#32
  let v389 : BitVec 1 := Scalar.cmpi .slt v385 c0_i32_243
  let v390 : BitVec 1 := Scalar.xori v388 v389
  let c0_i32_241 : BitVec 32 := 0#32
  let v387 : BitVec 1 := Scalar.cmpi .ne v386 c0_i32_241
  let v391 : BitVec 1 := Scalar.andi v390 v387
  let v392 : BitVec 32 := Scalar.addi v386 v385
  let v393 : BitVec 32 := Scalar.select v391 v392 v386
  let c1_i32_297 : BitVec 32 := 1#32
  let v490 : BitVec 32 := Scalar.muli v393 c1_i32_297
  let v491 : BitVec 32 := Scalar.addi c0_i32_298 v490
  v491.toNat
def k0_dev6 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_303 : BitVec 32 := 1#32
  let v500 : BitVec 32 := Scalar.addi v2 c1_i32_303
  let c2_i32_304 : BitVec 32 := 2#32
  let v501 : BitVec 32 := Scalar.addi v500 c2_i32_304
  let c4_i32_305 : BitVec 32 := 4#32
  let c0_i32_306 : BitVec 32 := 0#32
  let v502 : BitVec 1 := Scalar.cmpi .eq c4_i32_305 c0_i32_306
  let c1_i32_307 : BitVec 32 := 1#32
  let v503 : BitVec 32 := Scalar.select v502 c1_i32_307 c4_i32_305
  let v504 : BitVec 32 := Scalar.remsi v501 v503
  let c0_i32_309 : BitVec 32 := 0#32
  let v506 : BitVec 1 := Scalar.cmpi .slt v504 c0_i32_309
  let c0_i32_310 : BitVec 32 := 0#32
  let v507 : BitVec 1 := Scalar.cmpi .slt v503 c0_i32_310
  let v508 : BitVec 1 := Scalar.xori v506 v507
  let c0_i32_308 : BitVec 32 := 0#32
  let v505 : BitVec 1 := Scalar.cmpi .ne v504 c0_i32_308
  let v509 : BitVec 1 := Scalar.andi v508 v505
  let v510 : BitVec 32 := Scalar.addi v504 v503
  let v511 : BitVec 32 := Scalar.select v509 v510 v504
  let c1_i32_364 : BitVec 32 := 1#32
  let v608 : BitVec 32 := Scalar.muli v511 c1_i32_364
  let v609 : BitVec 32 := Scalar.addi c0_i32_365 v608
  v609.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_370 : BitVec 32 := 256#32
  let v618 : BitVec 32 := Scalar.muli v2 c256_i32_370
  let v642 : Index := Scalar.indexCast v618
  let c0_379 : Index := 0#32
  ![v642.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S1024x16 : Shape := ⟨2, ![1024, 16]⟩
abbrev S_ : Shape := ⟨0, ![]⟩
abbrev S1024 : Shape := ⟨1, ![1024]⟩
abbrev S1024x1024 : Shape := ⟨2, ![1024, 1024]⟩
abbrev S16 : Shape := ⟨1, ![16]⟩
abbrev S1x16 : Shape := ⟨2, ![1, 16]⟩
abbrev S1024x16x1024 : Shape := ⟨3, ![1024, 16, 1024]⟩
abbrev S1024x16x1 : Shape := ⟨3, ![1024, 16, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S16x512x1024, .f32⟩
  | .hbm, ⟨4, _⟩ => ⟨S512x1024, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x16, .f32⟩
  | .hbm, ⟨16, _⟩ => ⟨S1024x16, .f32⟩
  | .hbm, ⟨17, _⟩ => ⟨S1024x1024, .f32⟩
  | .hbm, ⟨18, _⟩ => ⟨S16, .i32⟩
  | .hbm, ⟨19, _⟩ => ⟨S1x16, .i32⟩
  | .hbm, ⟨20, _⟩ => ⟨S1024x16, .i32⟩
  | .hbm, ⟨21, _⟩ => ⟨S1024x16, .i32⟩
  | .hbm, ⟨22, _⟩ => ⟨S1024x16, .i1⟩
  | .hbm, ⟨23, _⟩ => ⟨S_, .f32⟩
  | .hbm, ⟨24, _⟩ => ⟨S_, .f32⟩
  | .hbm, ⟨25, _⟩ => ⟨S1024x16, .f32⟩
  | .hbm, ⟨26, _⟩ => ⟨S1024x16, .f32⟩
  | .hbm, ⟨27, _⟩ => ⟨S1024x16x1024, .f32⟩
  | .hbm, ⟨28, _⟩ => ⟨S1024x16x1, .f32⟩
  | .hbm, ⟨29, _⟩ => ⟨S1024x16x1024, .f32⟩
  | .hbm, ⟨30, _⟩ => ⟨S1024x16x1024, .f32⟩
  | .hbm, ⟨31, _⟩ => ⟨S_, .f32⟩
  | .hbm, ⟨32, _⟩ => ⟨S1024x1024, .f32⟩
  | .hbm, ⟨33, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Base.lean ====
/-
# The launch's algebra, and the rules by which the body moves a slab

A slab is one index of the leading axis of a three-dimensional buffer, held through a rectangle of that buffer.
`owns c M q X` says that device `c` holds the memory `M` names, at contents that read `X`. The rules below say what
a load, a store, a local copy and its wait do to such holdings, so that the body's run speaks of values only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, the exchange's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance
/-- The counters of the copies a device starts and awaits itself. -/
abbrev EC := countersEmb (nD := nD) (τ := τ) (sig := sig) (Ix := Unit) (Val := Elt F) (Name := ℕ) (U := UU) (Lvl := ℕ)

abbrev 𝒱₀ : Variants := Variants.none

/-- Device `c` holds `M`, reading `X`. -/
abbrev own (c : Dev nD) {sp : Space} {s : Shape} {e : EltTy} (M : Memref sig .tc sp s e) (X : s.Idx → Elt F e) : sProp 𝕄 :=
  owns (c : Thread nD τ) M fullShare X
/-- Device `c` holds `M`, whatever it reads. -/
abbrev holds (c : Dev nD) {sp : Space} {s : Shape} {e : EltTy} (M : Memref sig .tc sp s e) : sProp 𝕄 :=
  iprop(∃ X, own (F := F) c M X)

/-- The run of a program of device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules

variable {c : Dev nD} {sp sp' : Space} {s t u : Shape} {e : EltTy} {α : Type}

omit [FloatOps F] in
theorem own_def (M : Memref sig .tc sp s e) (X : s.Idx → Elt F e) :
    own c M X = iprop(∃ f : Buf (Elt F) (M.view.loc (c : Thread nD τ)), ⌜M.view.read (Elt F) f = X⌝ ∗ (M.view.loc (c : Thread nD τ) ↦[M.view.set]{fullShare} f)) := rfl

omit [FloatOps F] in
theorem own_of (M : Memref sig .tc sp s e) (f : Buf (Elt F) (M.view.loc (c : Thread nD τ))) :
    (M.view.loc (c : Thread nD τ) ↦[M.view.set]{fullShare} f : sProp 𝕄) ⊢ own c M (M.view.read (Elt F) f) := by
  rw [own_def]; iintro H; iexists f; isplitr; · ipureintro; rfl
  iexact H

omit [FloatOps F] in
theorem holds_intro (M : Memref sig .tc sp s e) (X : s.Idx → Elt F e) : own c M X ⊢ holds (F := F) c M := by
  iintro H; iexists X; iexact H

/-- Loading through a rectangle that is held gives the value held there. -/
theorem load_own {cs : CoreSpace} {M : Memref sig .tc cs s e} {r : Rect s} {hr : ∀ a, r.stride a = 1} {hl : M.view.LoadsAt r.toLoadRect}
    {k : (r.shape.Idx → Elt F e) → Prog (TpuEff nD τ sig (Elt F) Λ₀ .tc) α} {Q : α → sProp 𝕄} {X : r.shape.Idx → Elt F e} :
    own c (M.slice r hr) X ⊢ iprop((own c (M.slice r hr) X -∗ runs c (k X) Q) -∗ runs c (.op (.load M r.toLoadRect hl) k) Q) := by
  rw [own_def]
  iintro ⟨%f, %hf, H⟩ Hk
  iapply (wp_load_rect 𝒱₀ (c : Thread nD τ) none Set.univ (m := M) (r := r) (f := f) (Finset.Subset.refl _)) $$ H
  iintro H
  rw [show (M.access r).read (Elt F) f = X from hf]
  iapply Hk
  iexists f; isplitr; · ipureintro; exact hf
  iexact H

/-- Loading a slab whose value nobody needs. -/
theorem load_any {cs : CoreSpace} {M : Memref sig .tc cs s e} {r : Rect s} {hr : ∀ a, r.stride a = 1} {hl : M.view.LoadsAt r.toLoadRect}
    {k : (r.shape.Idx → Elt F e) → Prog (TpuEff nD τ sig (Elt F) Λ₀ .tc) α} {Q : α → sProp 𝕄} :
    holds (F := F) c (M.slice r hr) ⊢ iprop((∀ X, holds (F := F) c (M.slice r hr) -∗ runs c (k X) Q) -∗ runs c (.op (.load M r.toLoadRect hl) k) Q) := by
  iintro ⟨%X, H⟩ Hk
  iapply load_own $$ H
  iintro H
  iapply Hk $$ %X
  iexists X; iexact H

/-- Storing to a rectangle that is held leaves the value stored. -/
theorem store_own {cs : CoreSpace} {M : Memref sig .tc cs s e} {r : Rect s} {hr : ∀ a, r.stride a = 1} {w : r.shape.Idx → Elt F e}
    {hx : (M.access r).Stores Finset.univ} {hm : Finset.univ = (Finset.univ : Finset r.shape.Idx) ∨ ∀ a, r.stride a = 1}
    {k : PUnit → Prog (TpuEff nD τ sig (Elt F) Λ₀ .tc) α} {Q : α → sProp 𝕄} :
    holds (F := F) c (M.slice r hr) ⊢ iprop((own c (M.slice r hr) w -∗ runs c (k ⟨⟩) Q) -∗ runs c (.op (.store M r w Finset.univ hx hm) k) Q) := by
  simp only [holds, own_def]
  iintro ⟨%X, %f, %hf, H⟩ Hk
  iapply (wp_store 𝒱₀ (c : Thread nD τ) none Set.univ (m := M) (r := r) (f := f) (w := w) (hx := hx) (hm := hm) (Mk := Finset.univ) (S := (M.access r).set)
    (by rw [View.setOn_univ])) $$ H
  iintro H
  iapply Hk
  iexists ((M.access r).write (Elt F) f w Finset.univ)
  isplitr; · ipureintro; exact View.read_write_univ _ _
  iexact H

/-- Loading a rectangle of a memory held whole gives the part of its value the rectangle selects. -/
theorem load_part {cs : CoreSpace} {M : Memref sig .tc cs s e} {r : Rect s} {hl : M.view.LoadsAt r.toLoadRect}
    {k : (r.shape.Idx → Elt F e) → Prog (TpuEff nD τ sig (Elt F) Λ₀ .tc) α} {Q : α → sProp 𝕄} {X : s.Idx → Elt F e} :
    own c M X ⊢ iprop((own c M X -∗ runs c (k fun x => X (r.emb x)) Q) -∗ runs c (.op (.load M r.toLoadRect hl) k) Q) := by
  rw [own_def]
  iintro ⟨%f, %hf, H⟩ Hk
  iapply (wp_load_rect 𝒱₀ (c : Thread nD τ) none Set.univ (m := M) (r := r) (f := f) (View.set_slice_subset _ _)) $$ H
  iintro H
  rw [show (M.access r).read (Elt F) f = fun x => X (r.emb x) from by subst hf; rfl]
  iapply Hk
  iexists f; isplitr; · ipureintro; exact hf
  iexact H

/-- The same, the part given by name. -/
theorem load_named {cs : CoreSpace} {M : Memref sig .tc cs s e} {r : Rect s} {hl : M.view.LoadsAt r.toLoadRect}
    {k : (r.shape.Idx → Elt F e) → Prog (TpuEff nD τ sig (Elt F) Λ₀ .tc) α} {Q : α → sProp 𝕄} {X : s.Idx → Elt F e}
    (Y : r.shape.Idx → Elt F e) (hY : (fun x => X (r.emb x)) = Y) :
    own c M X ⊢ iprop((own c M X -∗ runs c (k Y) Q) -∗ runs c (.op (.load M r.toLoadRect hl) k) Q) := by
  subst hY; exact load_part

omit [FloatOps F] in
/-- A rectangle that is the whole memory selects everything. -/
theorem own_full (M : Memref sig .tc sp s e) {off : Fin s.rank → ℕ} (h0 : off = fun _ => 0) (inb : ∀ a, off a + s.size a ≤ s.size a)
    (hr : ∀ a, (Rect.unit (s := s) off s.size inb).stride a = 1) (X : s.Idx → Elt F e) :
    own c (M.slice (Rect.unit (s := s) off s.size inb) hr) X = own c M X := by
  subst h0
  have he : ∀ x : s.Idx, (Rect.unit (s := s) (fun _ => 0) s.size inb).emb x = x := fun x =>
    funext fun a => Fin.ext (by show 0 + 1 * (x a).val = (x a).val; omega)
  rw [own_def, own_def]
  have hset : (M.slice (Rect.unit (s := s) (fun _ => 0) s.size inb) hr).view.set = M.view.set := by
    show (M.view.slice _).set = _
    unfold View.set
    show Finset.univ.map ((Rect.unit (s := s) (fun _ => 0) s.size inb).emb.trans M.view.emb) = _
    exact congrArg (fun φ => Finset.univ.map φ) (Function.Embedding.ext fun x => congrArg M.view.emb (he x))
  have hread : ∀ f, (M.slice (Rect.unit (s := s) (fun _ => 0) s.size inb) hr).view.read (Elt F) f = M.view.read (Elt F) f := fun f =>
    funext fun x => congrArg (M.view.read (Elt F) f) (he x)
  refine congrArg (BIBase.exists (PROP := sProp 𝕄)) (funext fun f => ?_)
  rw [hset, hread]

/-- Loading all of a memory. -/
theorem load_full {cs : CoreSpace} {M : Memref sig .tc cs s e} {off : Fin s.rank → ℕ} (h0 : off = fun _ => 0) {inb : ∀ a, off a + s.size a ≤ s.size a}
    {hl : M.view.LoadsAt (Rect.unit (s := s) off s.size inb).toLoadRect}
    {k : (s.Idx → Elt F e) → Prog (TpuEff nD τ sig (Elt F) Λ₀ .tc) α} {Q : α → sProp 𝕄} {X : s.Idx → Elt F e} :
    own c M X ⊢ iprop((own c M X -∗ runs c (k X) Q) -∗ runs c (.op (.load M (Rect.unit (s := s) off s.size inb).toLoadRect hl) k) Q) := by
  rw [← own_full M h0 inb (fun _ => rfl)]
  exact load_own

/-- Storing to all of a memory. -/
theorem store_full {cs : CoreSpace} {M : Memref sig .tc cs s e} {off : Fin s.rank → ℕ} (h0 : off = fun _ => 0) {inb : ∀ a, off a + s.size a ≤ s.size a} {w : s.Idx → Elt F e}
    {hx : (M.access (Rect.unit (s := s) off s.size inb)).Stores Finset.univ} {hm : Finset.univ = (Finset.univ : Finset s.Idx) ∨ ∀ a, (Rect.unit (s := s) off s.size inb).stride a = 1}
    {k : PUnit → Prog (TpuEff nD τ sig (Elt F) Λ₀ .tc) α} {Q : α → sProp 𝕄} :
    holds (F := F) c M ⊢ iprop((own c M w -∗ runs c (k ⟨⟩) Q) -∗ runs c (.op (.store M (Rect.unit (s := s) off s.size inb) w Finset.univ hx hm) k) Q) := by
  have h := store_own (F := F) (c := c) (M := M) (r := Rect.unit (s := s) off s.size inb) (hr := fun _ => rfl) (w := w) (hx := hx) (hm := hm) (k := k) (Q := Q)
  rw [own_full M h0 inb (fun _ => rfl)] at h
  refine BI.Entails.trans ?_ h
  exact Entails.of_eq (congrArg (BIBase.exists (PROP := sProp 𝕄)) (funext fun X => (own_full (c := c) M h0 inb (fun _ => rfl) X).symm))

omit [FloatOps F] in
/-- Writing through a squeezed memory what another squeezed memory of the same shape reads: the unsqueezed one then
    reads what the other unsqueezed one read. -/
theorem read_write_squeeze (M : Memref sig .tc sp s e) (M' : Memref sig .tc sp' s e) (h : s.Squeezes t)
    (f : M.view.ty.Contents (Elt F)) (f' : M'.view.ty.Contents (Elt F)) :
    M'.view.read (Elt F) ((M'.squeeze t h).view.write (Elt F) f' ((M.squeeze t h).view.read (Elt F) f) Finset.univ) = M.view.read (Elt F) f := by
  rw [show (M'.squeeze t h).view.write (Elt F) f' ((M.squeeze t h).view.read (Elt F) f) Finset.univ = _ from
    View.write_reshape_univ (v := M'.view) _ f' _, View.read_write_univ]
  funext x
  show M.view.read (Elt F) f (Shape.reshapeEquiv _ ((Shape.reshapeEquiv _).symm x)) = _
  rw [Equiv.apply_symm_apply]

/-- Starting a copy of one slab onto another, by the squeezed memories the program names: on arrival the destination
    reads what the source reads. -/
theorem copy_start {S : Memref sig .tc sp s e} {D : Memref sig .tc sp' s e} {h : s.Squeezes t} {q : DmaSem sig}
    {hsrc : (S.squeeze t h).view.WordExact} {hdst : (D.squeeze t h).view.WordExact} {hsem : DmaTarget.Typed (nD := nD) sp (.dma q) (DmaTarget.here (p := (c : Thread nD τ).2) (D.squeeze t h))}
    {k : PUnit → Prog (TpuEff nD τ sig (Elt F) Λ₀ .tc) α} {Q : α → sProp 𝕄} {X : s.Idx → Elt F e}
    (N : ℕ) (hN : (D.squeeze t h).view.dmaCredit = N) (hN0 : 0 < N) :
    iprop(own c S X ∗ holds (F := F) c D ∗ semVal ((c : Thread nD τ), .dma q) 0)
      ⊢ iprop((Transfers.Flight (EC (F := F)) (c : Thread nD τ) (.dma q) () N iprop(own c D X ∗ own c S X) -∗ runs c (k ⟨⟩) Q)
        -∗ runs c (.op (.enqueueDma (S.squeeze t h) (.here (D.squeeze t h)) (.dma q) hsrc hdst hsem) k) Q) := by
  simp only [holds, own_def]
  iintro ⟨⟨%f, %hf, HS⟩, ⟨%Y, %f', %hf', HD⟩, Hq⟩ Hk
  iapply (Transfers.wp_dmaLocal (EC (F := F)) 𝒱₀ (c : Thread nD τ) none (src := S.squeeze t h) (dst := D.squeeze t h) (sm := .dma q)
    (fs := f) (fd := f') (Sd := (D.squeeze t h).view.set) (q := fullShare) () N hN hN0 (Finset.Subset.refl _)) $$ [HS HD Hq]
  · rw [View.set_reshape, View.set_reshape]
    isplitl [HS]; · iexact HS
    isplitl [HD] <;> iassumption
  iintro HF
  iapply Hk
  iapply (Transfers.Flight_mono (EC (F := F)) (D := _) ?_) $$ HF
  rw [View.set_reshape, View.set_reshape]
  iintro ⟨HD, HS⟩
  isplitl [HD]
  · iexists _
    isplitr; swap; · iexact HD
    ipureintro
    exact (read_write_squeeze S D h f f').trans hf
  · iexists f; isplitr; · ipureintro; exact hf
    iexact HS

/-- The same, of memories named whole. -/
theorem copy_start_whole {S : Memref sig .tc sp s e} {D : Memref sig .tc sp' s e} {q : DmaSem sig}
    {hsrc : S.view.WordExact} {hdst : D.view.WordExact} {hsem : DmaTarget.Typed (nD := nD) sp (.dma q) (DmaTarget.here (p := (c : Thread nD τ).2) D)}
    {k : PUnit → Prog (TpuEff nD τ sig (Elt F) Λ₀ .tc) α} {Q : α → sProp 𝕄} {X : s.Idx → Elt F e}
    (N : ℕ) (hN : D.view.dmaCredit = N) (hN0 : 0 < N) :
    iprop(own c S X ∗ holds (F := F) c D ∗ semVal ((c : Thread nD τ), .dma q) 0)
      ⊢ iprop((Transfers.Flight (EC (F := F)) (c : Thread nD τ) (.dma q) () N iprop(own c D X ∗ own c S X) -∗ runs c (k ⟨⟩) Q)
        -∗ runs c (.op (.enqueueDma S (.here D) (.dma q) hsrc hdst hsem) k) Q) := by
  simp only [holds, own_def]
  iintro ⟨⟨%f, %hf, HS⟩, ⟨%Y, %f', %hf', HD⟩, Hq⟩ Hk
  iapply (Transfers.wp_dmaLocal (EC (F := F)) 𝒱₀ (c : Thread nD τ) none (src := S) (dst := D) (sm := .dma q)
    (fs := f) (fd := f') (Sd := D.view.set) (q := fullShare) () N hN hN0 (Finset.Subset.refl _)) $$ [HS HD Hq]
  · isplitl [HS]; · iexact HS
    isplitl [HD] <;> iassumption
  iintro HF
  iapply Hk
  iapply (Transfers.Flight_mono (EC (F := F)) (D := _) ?_) $$ HF
  iintro ⟨HD, HS⟩
  isplitl [HD]
  · iexists _
    isplitr; swap; · iexact HD
    ipureintro
    exact (View.read_write_univ _ _).trans hf
  · iexists f; isplitr; · ipureintro; exact hf
    iexact HS

end Rules

end Cert.Routed

end
-- ==== Proof.Values.lean ====
/-
# What a device computes, as a function of what it is given

`Given F` is one device's operands. The definitions below name, in the program's order, the values its run passes
through: the scaled rows, the three blocks of partial products it sends, and its block of the result.
-/
module

public import proofs.«01_k».proof.Proof.Base

@[expose] public section

noncomputable section

namespace Cert.Routed

open Cert.KernelIdeal Cert.KernelIdeal.Gen
open Idealize.ShloMosaic

variable {F : FTy → Type} [FloatOps F]

/-- One device's operands: the rows, the router's weights, the chosen experts, its four experts' weights (one slab
    each), the shared expert's weights. -/
structure Given (F : FTy → Type) where
  x : Vec F S1024x512 .f32
  r : Vec F S512x16 .f32
  i : Vec F S1024x1 .i32
  w : Fin 4 → Vec F S1x512x1024 .f32
  s : Vec F S512x1024 .f32

/-- A device's position, as the program computes it. -/
def me (c : Dev nD) : BitVec 32 := Scalar.remsi (Scalar.divsi (Dev.word c) 1#32) 4#32

/-- The rows of the device's own chunk, and of the chunk `k + 1` positions on. -/
abbrev ownI (c : Dev nD) : Rect S1024x1 := Rect.unit (s := S1024x1) (k0_off1 c) S256x1.size (k0_off1_inb c)
abbrev ownX (c : Dev nD) : Rect S1024x512 := Rect.unit (s := S1024x512) (k0_off4 c) S256x512.size (k0_off4_inb c)
abbrev farI (c : Dev nD) (k : Fin 3) : Rect S1024x1 :=
  Rect.unit (s := S1024x1) (k0_off2 c (BitVec.ofNat 32 k.val)) S256x1.size (k0_off2_inb c k)
abbrev farX (c : Dev nD) (k : Fin 3) : Rect S1024x512 :=
  Rect.unit (s := S1024x512) (k0_off3 c (BitVec.ofNat 32 k.val)) S256x512.size (k0_off3_inb c k)

namespace Given

variable (a : Given F) (c : Dev nD)

/-- The scaled rows, and the chosen experts as floats. -/
def xs : Vec F S1024x512 .bf16 := k0_pay3 (k0_pay2 a.x a.r a.i)
def ib : Vec F S1024x1 .bf16 := k0_pay4 (F := F) (k0_pay1 a.i)
/-- The device's experts' weights as stored for the products. -/
def eb : Fin 4 → Vec F S1x512x1024 .bf16
  | 0 => k0_pay15 (a.w 0)
  | 1 => k0_pay17 (a.w 1)
  | 2 => k0_pay19 (a.w 2)
  | 3 => k0_pay21 (a.w 3)

abbrev tri : FVec F S256x256 .bf16 := k0_pay5 (F := F)
abbrev io : IVec S256x96 32 := iota .tc S256x96 32 [1] iota_S256x96_d1_w32
abbrev z1 : FVec F S256x1 .f32 := constant S256x1 .f32 0x00000000#32
abbrev z96 : FVec F S96x1 .f32 := constant S96x1 .f32 0x00000000#32
abbrev one : F .f32 := Scalar.ofBits .f32 0x3F800000#32
abbrev zero : F .f32 := Scalar.ofBits .f32 0x00000000#32

/-- The chosen experts, scaled rows and float experts of the own chunk and of the far ones. -/
def ownIdx : Vec F S256x1 .i32 := fun y => a.i ((ownI c).emb y)
def ownIb : Vec F S256x1 .bf16 := fun y => a.ib ((ownI c).emb y)
def ownXs : Vec F S256x512 .bf16 := fun y => a.xs ((ownX c).emb y)
def ownRows : Vec F S256x512 .f32 := fun y => a.x ((ownX c).emb y)
def farIdx (k : Fin 3) : Vec F S256x1 .i32 := fun y => a.i ((farI c k).emb y)
def farIb (k : Fin 3) : Vec F S256x1 .bf16 := fun y => a.ib ((farI c k).emb y)
def farXs (k : Fin 3) : Vec F S256x512 .bf16 := fun y => a.xs ((farX c k).emb y)

/-- Which place of a received block belongs to which row of the own chunk. -/
def back0 : FVec F S256x96 .bf16 := k0_pay8 (tri (F := F)) io (k0_pay6 (me c) (a.ownIdx c)) (k0_pay7 (me c) (a.ownIdx c)) (z1 (F := F))
def back1 : FVec F S256x96 .bf16 := k0_pay10 (F := F) (k0_pay9 (me c) (tri (F := F)) io (a.ownIdx c))
def back2 : FVec F S256x96 .bf16 := k0_pay11 (me c) (tri (F := F)) io (a.ownIdx c)

/-! ### The block for the chunk two positions on -/

def m1 : FVec F S256x96 .bf16 := k0_pay12 (me c) (tri (F := F)) io (a.farIdx c 1)
def xp1 : FVec F S96x512 .bf16 := k0_pay13 (me c) (tri (F := F)) io (a.farIdx c 1) (a.farXs c 1)
def ip1 : FVec F S96x1 .f32 := k0_pay14 (a.m1 c) (a.farIb c 1) (z96 (F := F))
def p1 : FVec F S96x1024 .f32 := k0_pay16 (me c) (a.m1 c) (a.xp1 c) (a.farIb c 1) (z96 (F := F)) (a.eb 0)
def p2 : FVec F S96x1024 .f32 := k0_pay18 (me c) (a.xp1 c) (a.ip1 c) (a.p1 c) (a.eb 1)
def p3 : FVec F S96x1024 .f32 := k0_pay20 (me c) (a.xp1 c) (a.ip1 c) (a.p2 c) (a.eb 2)
def send1 : Vec F S1x96x1024 .bf16 := k0_pay22 (me c) (a.xp1 c) (a.ip1 c) (a.p3 c) (a.eb 3)

/-! ### The block for the next chunk -/

def xp0 : FVec F S96x512 .bf16 := k0_pay24 (me c) (tri (F := F)) io (a.farIdx c 0) (a.farXs c 0)
def ip0 : FVec F S96x1 .f32 := k0_pay25 (me c) (tri (F := F)) io (a.farIdx c 0) (a.farIb c 0)
def q1 : FVec F S96x1024 .f32 := k0_pay27 (me c) (a.xp0 c) (a.ip0 c) (k0_pay26 (F := F)) (Scalar.muli (me c) 4#32) (a.eb 0) (a.eb 1)
def q2 : FVec F S96x512 .bf16 := k0_pay28 (me c) (a.xp0 c) (a.ip0 c)
def send0 : Vec F S1x96x1024 .bf16 := k0_pay29 (me c) (a.xp0 c) (a.ip0 c) (a.q1 c) (a.q2 c) (a.eb 2) (a.eb 3)

/-! ### The block for the chunk three positions on -/

def m2 : FVec F S256x96 .bf16 := k0_pay30 (me c) (tri (F := F)) io (a.farIdx c 2)
def xp2 : FVec F S96x512 .bf16 := k0_pay31 (me c) (tri (F := F)) io (a.farIdx c 2) (a.farXs c 2)
def ip2 : FVec F S96x1 .f32 := k0_pay32 (a.m2 c) (a.farIb c 2)
def r1 : FVec F S96x1024 .f32 := k0_pay33 (me c) (a.m2 c) (a.xp2 c) (a.farIb c 2) (a.eb 0) (a.eb 1)
def r2 : IVec S96x1 1 := k0_pay34 (me c) (a.m2 c) (a.farIb c 2)
def send2 : Vec F S1x96x1024 .bf16 :=
  k0_pay35 (me c) (a.xp2 c) (a.ip2 c) (a.r1 c) (a.r2 c) (one (F := F)) (zero (F := F)) (a.eb 2) (a.eb 3)

/-- The block sent to the chunk `k + 1` positions on. -/
def send : Fin 3 → Vec F S1x96x1024 .bf16
  | 0 => a.send0 c
  | 1 => a.send1 c
  | 2 => a.send2 c

/-! ### The own chunk -/

def m3 : FVec F S256x96 .bf16 := k0_pay36 (me c) (tri (F := F)) io (a.ownIdx c)
def xp3 : FVec F S96x512 .bf16 := k0_pay37 (me c) (tri (F := F)) io (a.ownIdx c) (a.ownXs c)
def ip3 : FVec F S96x1 .f32 := k0_pay38 (me c) (tri (F := F)) io (a.ownIdx c) (a.ownIb c)
def h3 : IVec S96x1 1 := k0_pay40 (me c) (tri (F := F)) io (a.ownIdx c) (a.ownIb c)
def t1 : FVec F S96x1024 .f32 := k0_pay41 (me c) (a.xp3 c) (a.ip3 c) (k0_pay39 (F := F)) (a.h3 c) (one (F := F)) (a.eb 0) (a.eb 1)
def t2 : FVec F S96x1024 .f32 := k0_pay42 (me c) (a.xp3 c) (a.ip3 c) (a.eb 2)
def acc : FVec F S256x1024 .f32 :=
  k0_pay43 (me c) (a.m3 c) (a.xp3 c) (a.ip3 c) (a.t1 c) (a.t2 c) (a.eb 3) (a.ownRows c) a.s

/-- The result, from the three blocks received. -/
def out (got : Fin 3 → Vec F S1x96x1024 .bf16) : Vec F S256x1024 .f32 :=
  k0_pay45 (a.back0 c) (k0_pay44 (a.back1 c) (a.back2 c) (a.acc c) (got 1) (got 2)) (got 0)

end Given

end Cert.Routed

end
-- ==== Proof.Slabs.lean ====
/-
# Buffers cut into slabs

A buffer whose leading axis is cut into single indices is held slab by slab, and the slabs join to the buffer again:
with its own contents if every slab still reads them, with some contents otherwise.
-/
module

public import proofs.«01_k».proof.Proof.Values
public import Idealize.ShloMosaic.Lib.Ring

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem inb4 (e : Fin 4) : ∀ a, (![e.val, 0, 0] : Fin 3 → ℕ) a + S1x512x1024.size a ≤ S4x512x1024.size a := by revert e; decide
theorem inb3 (k : Fin 3) : ∀ a, (![k.val, 0, 0] : Fin 3 → ℕ) a + S1x96x1024.size a ≤ S3x96x1024.size a := by revert k; decide

/-- Slab `e` of four, and slot `k` of three. -/
abbrev slab (e : Fin 4) : Rect S4x512x1024 := Rect.unit (s := S4x512x1024) ![e.val, 0, 0] S1x512x1024.size (inb4 e)
abbrev slot (k : Fin 3) : Rect S3x96x1024 := Rect.unit (s := S3x96x1024) ![k.val, 0, 0] S1x96x1024.size (inb3 k)

theorem slab_disjoint (e e' : Fin 4) (h : e ≠ e') : Disjoint (slab e).set (slab e').set :=
  Ring.lead_disjoint (s := S4x512x1024) (NB := 4) (a₀ := 0) (R := 1) (off := fun b : Fin 4 => ![b.val, 0, 0]) (size := S1x512x1024.size) (inb := inb4)
    (fun b => by simp) rfl e e' h
theorem slab_cover : Finset.univ.biUnion (fun e => (slab e).set) = Finset.univ :=
  Ring.lead_cover (s := S4x512x1024) (NB := 4) (a₀ := 0) (R := 1) (off := fun b : Fin 4 => ![b.val, 0, 0]) (size := S1x512x1024.size) (inb := inb4)
    (fun b => by simp) (fun b a ha => by fin_cases a; exact absurd rfl ha; rfl; rfl) rfl (fun a ha => by fin_cases a; exact absurd rfl ha; rfl; rfl) rfl
theorem slot_disjoint (e e' : Fin 3) (h : e ≠ e') : Disjoint (slot e).set (slot e').set :=
  Ring.lead_disjoint (s := S3x96x1024) (NB := 3) (a₀ := 0) (R := 1) (off := fun b : Fin 3 => ![b.val, 0, 0]) (size := S1x96x1024.size) (inb := inb3)
    (fun b => by simp) rfl e e' h
theorem slot_cover : Finset.univ.biUnion (fun e => (slot e).set) = Finset.univ :=
  Ring.lead_cover (s := S3x96x1024) (NB := 3) (a₀ := 0) (R := 1) (off := fun b : Fin 3 => ![b.val, 0, 0]) (size := S1x96x1024.size) (inb := inb3)
    (fun b => by simp) (fun b a ha => by fin_cases a; exact absurd rfl ha; rfl; rfl) rfl (fun a ha => by fin_cases a; exact absurd rfl ha; rfl; rfl) rfl

variable {c : Dev nD}

omit [FloatOps F] in
/-- A rectangle of a buffer held at the values the buffer's contents have there is that part of the buffer. -/
theorem own_slice_whole (b : Ref sig .tc) (r : Rect b.ty.shape) (hr : ∀ a, r.stride a = 1) (f : b.ty.Contents (Elt F)) :
    own c ((Memref.whole b).slice r hr) (fun y => f (r.emb y)) = (((c : Thread nD τ).loc b) ↦[r.set]{fullShare} f : sProp 𝕄) := by
  have hset : ((Memref.whole b).slice r hr).view.set = r.set := View.set_slice_whole b r
  have h₁ : own c ((Memref.whole b).slice r hr) (fun y => f (r.emb y)) ⊢ (((c : Thread nD τ).loc b) ↦[r.set]{fullShare} f : sProp 𝕄) := by
    rw [own_def, hset]
    iintro ⟨%g, %hg, H⟩
    iapply (Entails.of_eq (pointsTo_congr (f := g) (g := f) (fun j hj => ?_))) $$ H
    rw [← Rect.map_emb_univ] at hj
    obtain ⟨y, -, rfl⟩ := Finset.mem_map.mp hj
    exact congrFun hg y
  have h₂ : (((c : Thread nD τ).loc b) ↦[r.set]{fullShare} f : sProp 𝕄) ⊢ own c ((Memref.whole b).slice r hr) (fun y => f (r.emb y)) := by
    have h := own_of (c := c) ((Memref.whole b).slice r hr) f
    rw [hset] at h
    exact h
  exact Idealize.SL.BI.Entails.antisymm h₁ h₂

omit [FloatOps F] in
theorem own_whole (b : Ref sig .tc) (f : b.ty.Contents (Elt F)) :
    own c (Memref.whole b) f = (((c : Thread nD τ).loc b) ↦{fullShare} f : sProp 𝕄) := by
  have hset : (Memref.whole b).view.set = Finset.univ := View.set_whole b
  have h₁ : own c (Memref.whole b) f ⊢ (((c : Thread nD τ).loc b) ↦{fullShare} f : sProp 𝕄) := by
    rw [own_def, hset]
    iintro ⟨%g, %hg, H⟩
    subst hg; iexact H
  have h₂ : (((c : Thread nD τ).loc b) ↦{fullShare} f : sProp 𝕄) ⊢ own c (Memref.whole b) f := by
    have h := own_of (c := c) (Memref.whole b) f
    rw [hset] at h
    exact h
  exact Idealize.SL.BI.Entails.antisymm h₁ h₂

omit [FloatOps F] in
/-- Held whole, held slab by slab. -/
theorem own_slabs {n : ℕ} (b : Ref sig .tc) (R : Fin n → Rect b.ty.shape) (hr : ∀ e a, (R e).stride a = 1)
    (hd : ∀ e e', e ≠ e' → Disjoint (R e).set (R e').set) (hc : Finset.univ.biUnion (fun e => (R e).set) = Finset.univ) (f : b.ty.Contents (Elt F)) :
    (((c : Thread nD τ).loc b) ↦{fullShare} f : sProp 𝕄)
      = bigSep Finset.univ fun e => own c ((Memref.whole b).slice (R e) (hr e)) (fun y => f ((R e).emb y)) := by
  rw [Ring.pointsTo_blocks (ℓ := (c : Thread nD τ).loc b) (fun e => (R e).set) hd hc f]
  exact bigSep_congr fun e _ => (own_slice_whole b (R e) (hr e) f).symm

omit [FloatOps F] in
/-- Slabs at anything join to the buffer at something. -/
theorem holds_slabs {n : ℕ} (b : Ref sig .tc) (R : Fin n → Rect b.ty.shape) (hr : ∀ e a, (R e).stride a = 1)
    (hd : ∀ e e', e ≠ e' → Disjoint (R e).set (R e').set) (hc : Finset.univ.biUnion (fun e => (R e).set) = Finset.univ) (f₀ : b.ty.Contents (Elt F)) :
    (bigSep Finset.univ fun e => holds (F := F) c ((Memref.whole b).slice (R e) (hr e)))
      ⊢ (iprop(∃ g : Buf (Elt F) ((c : Thread nD τ).loc b), ((c : Thread nD τ).loc b) ↦{fullShare} g) : sProp 𝕄) := by
  have h : ∀ e, (holds (F := F) c ((Memref.whole b).slice (R e) (hr e)))
      ⊢ (iprop(∃ g : Buf (Elt F) ((c : Thread nD τ).loc b), ((c : Thread nD τ).loc b) ↦[(R e).set]{fullShare} g) : sProp 𝕄) := fun e => by
    have hset : ((Memref.whole b).slice (R e) (hr e)).view.set = (R e).set := View.set_slice_whole b (R e)
    rw [holds]
    simp only [own_def, hset]
    iintro ⟨%X, %g, %hg, H⟩
    iexists g
    iexact H
  exact (bigSep_mono fun e _ => h e).trans (Ring.pointsTo_blocks_join_exists (ℓ := (c : Thread nD τ).loc b) (fun e => (R e).set) hd hc f₀)

omit [FloatOps F] in
theorem holds_whole (b : Ref sig .tc) :
    (holds (F := F) c (Memref.whole b) : sProp 𝕄) = iprop(∃ g : Buf (Elt F) ((c : Thread nD τ).loc b), ((c : Thread nD τ).loc b) ↦{fullShare} g) :=
  congrArg (BIBase.exists (PROP := sProp 𝕄)) (funext fun f => own_whole b f)

end Cert.Routed

end
-- ==== Proof.Protocol.lean ====
/-
# The exchange: cells, schedule, debts

Every device signals the three others once, and each signal hands over the signaller's landing slot that the signalled
device will send into. A device then sends its block `k` to the device `k + 1` positions on, which lands in that
device's slot `2 - k`. One round: a device's barrier cell has three duties of one unit, each send cell and each receive
cell one duty of a block's credit. The payloads carry the blocks at the values the run gives them.
-/
module

public import proofs.«01_k».proof.Proof.Slabs

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices, buffers, semaphores -/

set_option backward.proofsInPublic true in
/-- The device `k + 1` positions on. -/
def peer (c : Dev nD) (k : Fin 3) : Dev nD := ⟨(c.val + (k.val + 1)) % 4, Nat.mod_lt _ (by decide)⟩

theorem peer_peer (c : Dev nD) (k : Fin 3) : peer (peer c k) k.rev = c := by revert c k; decide
theorem peer_inj (k : Fin 3) : Function.Injective fun c => peer c k := by revert k; decide
theorem peer_ne (c : Dev nD) (k : Fin 3) : peer c k ≠ c := by revert c k; decide
theorem peer_k (c : Dev nD) (k l : Fin 3) : peer c k = peer c l ↔ k = l := by revert c k l; decide

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 1 := by revert c; decide
theorem dev5_eq (c : Dev nD) : (⟨k0_dev5 c, k0_dev5_lt c⟩ : Dev nD) = peer c 0 := by revert c; decide
theorem dev6_eq (c : Dev nD) : (⟨k0_dev6 c, k0_dev6_lt c⟩ : Dev nD) = peer c 2 := by revert c; decide

abbrev xM : Memref sig .tc .vmem S1024x512 .f32 := Memref.whole cc0_stg0_0
abbrev rM : Memref sig .tc .vmem S512x16 .f32 := Memref.whole cc0_stg1_0
abbrev iM : Memref sig .tc .vmem S1024x1 .i32 := Memref.whole cc0_stg2_0
abbrev oM : Memref sig .tc .vmem S256x1024 .f32 := Memref.whole cc0_stg3_0
abbrev wM : Memref sig .tc .hbm S4x512x1024 .f32 := Memref.whole main_arg3
abbrev sM : Memref sig .tc .hbm S512x1024 .f32 := Memref.whole main_arg4
abbrev wvM : Memref sig .tc .vmem S4x512x1024 .f32 := Memref.whole cc0_scratch0
abbrev wbM : Memref sig .tc .vmem S4x512x1024 .bf16 := Memref.whole cc0_scratch1
abbrev svM : Memref sig .tc .vmem S512x1024 .f32 := Memref.whole cc0_scratch2
abbrev xsM : Memref sig .tc .vmem S1024x512 .bf16 := Memref.whole cc0_scratch3
abbrev ibM : Memref sig .tc .vmem S1024x1 .bf16 := Memref.whole cc0_scratch4
abbrev outM : Memref sig .tc .vmem S3x96x1024 .bf16 := Memref.whole cc0_scratch5
abbrev inM : Memref sig .tc .vmem S3x96x1024 .bf16 := Memref.whole cc0_scratch6

abbrev wSlab (e : Fin 4) : Memref sig .tc .hbm S1x512x1024 .f32 := wM.slice (slab e) (fun _ => rfl)
abbrev wvSlab (e : Fin 4) : Memref sig .tc .vmem S1x512x1024 .f32 := wvM.slice (slab e) (fun _ => rfl)
abbrev wbSlab (e : Fin 4) : Memref sig .tc .vmem S1x512x1024 .bf16 := wbM.slice (slab e) (fun _ => rfl)
abbrev outSlot (k : Fin 3) : Memref sig .tc .vmem S1x96x1024 .bf16 := outM.slice (slot k) (fun _ => rfl)
abbrev inSlot (k : Fin 3) : Memref sig .tc .vmem S1x96x1024 .bf16 := inM.slice (slot k) (fun _ => rfl)

theorem inb5s (e : Fin 5) : ∀ a, (![e.val] : Fin 1 → ℕ) a + S1.size a ≤ S5.size a := by revert e; decide
theorem inb3s (k : Fin 3) : ∀ a, (![k.val] : Fin 1 → ℕ) a + S1.size a ≤ S3.size a := by revert k; decide

abbrev barS : Sem sig := (SemArray.scalar (sig.barrier 0 rfl) : Sems sig S_).sem
abbrev copyS (e : Fin 5) : DmaSem sig := (((cc0_scratch7 : DmaSems sig S5).slice (Rect.unit (s := S5) ![e.val] S1.size (inb5s e))).squeeze S_ squeezes_S1_S_).sem
abbrev sendS (k : Fin 3) : DmaSem sig := (((cc0_scratch8 : DmaSems sig S3).slice (Rect.unit (s := S3) ![k.val] S1.size (inb3s k))).squeeze S_ squeezes_S1_S_).sem
abbrev recvS (k : Fin 3) : DmaSem sig := (((cc0_scratch9 : DmaSems sig S3).slice (Rect.unit (s := S3) ![k.val] S1.size (inb3s k))).squeeze S_ squeezes_S1_S_).sem

/-- A cell's role in the exchange: the barrier, or the end of a block's journey that is sent, or that is received. -/
abbrev Role : Type := Option (Fin 3 ⊕ Fin 3)
abbrev bar : Role := none
abbrev snd (k : Fin 3) : Role := some (.inl k)
abbrev rcv (k : Fin 3) : Role := some (.inr k)
def roles : List Role := [bar, snd 0, snd 1, snd 2, rcv 0, rcv 1, rcv 2]
theorem roles_nodup : roles.Nodup := by decide
theorem roles_univ (x : Role) : x ∈ roles := by
  unfold roles
  rcases x with _ | k | k
  · exact List.mem_cons_self
  · fin_cases k <;> simp [snd, rcv]
  · fin_cases k <;> simp [snd, rcv]

abbrev csem : Role → SemLoc sig
  | none => .reg barS
  | some (.inl k) => .dma (sendS k)
  | some (.inr k) => .dma (recvS k)
abbrev kcell (ck : Dev nD × Role) : GSem nD τ sig := ((ck.1 : Thread nD τ), csem ck.2)
abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The role of a semaphore, if it has one. -/
def role (s : SemLoc sig) : Option Role := roles.find? fun x => csem x = s

theorem role_csem (x : Role) : role (csem x) = some x := by revert x; decide
theorem role_bar : role (.reg barS) = some bar := role_csem bar
theorem role_send (k : Fin 3) : role (.dma (sendS k)) = some (snd k) := role_csem (snd k)
theorem role_recv (k : Fin 3) : role (.dma (recvS k)) = some (rcv k) := role_csem (rcv k)
theorem role_copy (e : Fin 5) : role (.dma (copyS e)) = none := by revert e; decide

/-- A block's credit. -/
abbrev N : ℕ := ((inSlot 0).squeeze S96x1024 squeezes_S1x96x1024_S96x1024).view.dmaCredit
theorem N_pos : 0 < N := View.dmaCredit_pos _ (by decide)

/-! ## Contents -/

variable (m : (ℓ : Loc nD τ sig) → Buf (Elt F) ℓ) (ρ : Dev nD → PrngReg)

/-- The memory at launch: any contents, every semaphore zero, any generator registers. -/
def s₀ : MemSt nD τ sig (Elt F) := ⟨m, fun _ => 0, ρ⟩

/-- What device `c` is given: the staged blocks of the rows, the router's weights and the chosen experts, the slabs of
    its experts' weights, the shared expert's weights. -/
def given (c : Dev nD) : Given F where
  x := (win0_0.blk (0 : Fin 1)).view.read (Elt F) ((s₀ m ρ).mem ((c : Thread nD τ).loc main_arg0))
  r := (win0_1.blk (0 : Fin 1)).view.read (Elt F) ((s₀ m ρ).mem ((c : Thread nD τ).loc main_arg1))
  i := (win0_2.blk (0 : Fin 1)).view.read (Elt F) ((s₀ m ρ).mem ((c : Thread nD τ).loc main_arg2))
  w e := fun y => (s₀ m ρ).mem ((c : Thread nD τ).loc main_arg3) ((slab e).emb y)
  s := (s₀ m ρ).mem ((c : Thread nD τ).loc main_arg4)

/-- The block device `c` sends to the device `k + 1` positions on, and the one it receives in slot `j`. -/
def sent (c : Dev nD) (k : Fin 3) : Vec F S1x96x1024 .bf16 := (given m ρ c).send c k
def got (c : Dev nD) (j : Fin 3) : Vec F S1x96x1024 .bf16 := sent m ρ (peer c j) j.rev
def outAt (c : Dev nD) : Vec F S256x1024 .f32 := (given m ρ c).out c (got m ρ c)

/-! ## The schedule -/

/-- What duty `d` of `c`'s barrier cell hands `c`: the landing slot it sends into, and that its receive cell is at round 0. -/
def barPay (c : Dev nD) (d : Fin 3) : sProp 𝕄 :=
  iprop(holds (F := F) (peer c d.rev) (inSlot d) ∗ reached ER (recvCell (peer c d.rev) d) 0)

def payload (c : Dev nD) (d : Fin 3) : Option Role → sProp 𝕄
  | some none => barPay c d
  | some (some (.inl k)) => own c (outSlot k) (sent m ρ c k)
  | some (some (.inr k)) => own c (inSlot k) (got m ρ c k)
  | none => iprop(emp)

instance payload_storable (c : Dev nD) (d : Fin 3) (x : Option Role) : BI.Storable (upEmb : UEmb _ 𝕄) (payload m ρ c d x) := by
  rcases x with _ | _ | k | k <;> (unfold payload; try unfold barPay) <;> infer_instance

def dutiesOf : Option Role → Finset (Fin 3)
  | some none => Finset.univ
  | some (some _) => {0}
  | none => ∅

def amountOf : Option Role → ℕ
  | some none => 1
  | _ => N

def Rd : Rounds.Schedule (GSem nD τ sig) (Fin 3) 𝕄 where
  duties g r := if r = 0 ∧ g.1.2 = .tc then dutiesOf (role g.2) else ∅
  unitless _ := False
  amount g _ _ := amountOf (role g.2)
  payload g _ d := payload m ρ g.1.1 d (role g.2)
  amount_pos g _ _ _ := by
    rcases role g.2 with _ | _ | k <;> first | exact Nat.one_pos | exact N_pos

instance Rd_payload_storable (g : GSem nD τ sig) (r : ℕ) (d : Fin 3) : BI.Storable (upEmb : UEmb _ 𝕄) ((Rd (F := F) m ρ).payload g r d) := by
  show BI.Storable upEmb (payload m ρ g.1.1 d (role g.2)); infer_instance

section Sched
variable (c : Dev nD)

theorem duties_cell (x : Role) : (Rd (F := F) m ρ).duties (kcell (c, x)) 0 = dutiesOf (some x) := by
  refine (if_pos (c := 0 = 0 ∧ (kcell (c, x)).1.2 = .tc) (e := (∅ : Finset (Fin 3))) ⟨rfl, rfl⟩).trans (congrArg dutiesOf (role_csem x))
theorem duties_later (g : GSem nD τ sig) : ∀ r, 1 ≤ r → (Rd (F := F) m ρ).duties g r = ∅ :=
  fun r hr => if_neg (c := r = 0 ∧ g.1.2 = .tc) fun h => by omega
theorem amount_cell (x : Role) (d : Fin 3) : (Rd (F := F) m ρ).amount (kcell (c, x)) 0 d = amountOf (some x) := by
  show amountOf (role (csem x)) = _; rw [role_csem]
theorem payload_cell (x : Role) (d : Fin 3) : (Rd (F := F) m ρ).payload (kcell (c, x)) 0 d = payload m ρ c d (some x) := by
  show payload m ρ c d (role (csem x)) = _; rw [role_csem]

theorem duties_bar : (Rd (F := F) m ρ).duties (barCell c) 0 = Finset.univ := duties_cell m ρ c bar
theorem duties_send (k : Fin 3) : (Rd (F := F) m ρ).duties (sendCell c k) 0 = {0} := duties_cell m ρ c (snd k)
theorem duties_recv (k : Fin 3) : (Rd (F := F) m ρ).duties (recvCell c k) 0 = {0} := duties_cell m ρ c (rcv k)
theorem amount_bar (d : Fin 3) : (Rd (F := F) m ρ).amount (barCell c) 0 d = 1 := amount_cell m ρ c bar d
theorem amount_send (k d : Fin 3) : (Rd (F := F) m ρ).amount (sendCell c k) 0 d = N := amount_cell m ρ c (snd k) d
theorem amount_recv (k d : Fin 3) : (Rd (F := F) m ρ).amount (recvCell c k) 0 d = N := amount_cell m ρ c (rcv k) d
theorem payload_bar (d : Fin 3) : (Rd (F := F) m ρ).payload (barCell c) 0 d = barPay c d := payload_cell m ρ c bar d
theorem payload_send (k d : Fin 3) : (Rd (F := F) m ρ).payload (sendCell c k) 0 d = own c (outSlot k) (sent m ρ c k) := payload_cell m ρ c (snd k) d
theorem payload_recv (k d : Fin 3) : (Rd (F := F) m ρ).payload (recvCell c k) 0 d = own c (inSlot k) (got m ρ c k) := payload_cell m ρ c (rcv k) d

theorem expect_bar : (Rd (F := F) m ρ).expect (barCell c) 0 = 3 := by
  unfold Schedule.expect Schedule.amountOf
  rw [duties_bar, Finset.sum_congr rfl fun d _ => amount_bar m ρ c d]; rfl
theorem expect_send (k : Fin 3) : (Rd (F := F) m ρ).expect (sendCell c k) 0 = N := by
  unfold Schedule.expect Schedule.amountOf; rw [duties_send, Finset.sum_singleton, amount_send]
theorem expect_recv (k : Fin 3) : (Rd (F := F) m ρ).expect (recvCell c k) 0 = N := by
  unfold Schedule.expect Schedule.amountOf; rw [duties_recv, Finset.sum_singleton, amount_recv]

/-- What the waits of a device collect: three landing slots; a block sent; a block received. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (k : Fin 3) : bigSep ((Rd (F := F) m ρ).duties (sendCell c k) 0 \ ∅) (fun d => (Rd (F := F) m ρ).payload (sendCell c k) 0 d)
    = own c (outSlot k) (sent m ρ c k) := by
  rw [Finset.sdiff_empty, duties_send, bigSep_singleton, payload_send]
theorem rest_recv (k : Fin 3) : bigSep ((Rd (F := F) m ρ).duties (recvCell c k) 0 \ ∅) (fun d => (Rd (F := F) m ρ).payload (recvCell c k) 0 d)
    = own c (inSlot k) (got m ρ c k) := by
  rw [Finset.sdiff_empty, duties_recv, bigSep_singleton, payload_recv]

end Sched

/-! ## What a device owes, and the levels -/

/-- The credit of block `k`, owed to its receiver; the unit owed to a barrier cell. -/
abbrev debtR (c : Dev nD) (k : Fin 3) : CellTallies nD τ sig Unit := tallyAt (recvCell (peer c k) k.rev) () N
abbrev debtB (c : Dev nD) (k : Fin 3) : CellTallies nD τ sig Unit := tallyAt (barCell (peer c k)) () 1

/-- The debts of a device, in the order it pays them, the last first. -/
abbrev O₅ (c : Dev nD) : CellTallies nD τ sig Unit := 0 + debtR c 2
abbrev O₄ (c : Dev nD) : CellTallies nD τ sig Unit := O₅ c + debtR c 0
abbrev O₃ (c : Dev nD) : CellTallies nD τ sig Unit := O₄ c + debtR c 1
abbrev O₂ (c : Dev nD) : CellTallies nD τ sig Unit := O₃ c + debtB c 2
abbrev O₁ (c : Dev nD) : CellTallies nD τ sig Unit := O₂ c + debtB c 1
abbrev O₀ (c : Dev nD) : CellTallies nD τ sig Unit := O₁ c + debtB c 0

def L (g : GSem nD τ sig) : Finset Unit := if g.1.2 = .tc then {()} else ∅
def levelOf : Option Role → ℕ
  | some none => 1
  | some (some (.inr _)) => 2
  | _ => 0
/-- Barrier cells at 1, receive cells at 2, all else at 0. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_recv (c : Dev nD) (k : Fin 3) : lv (recvCell c k) () = 2 := by unfold lv; rw [role_recv]; rfl
theorem lv_send (c : Dev nD) (k : Fin 3) : lv (sendCell c k) () = 0 := by unfold lv; rw [role_send]; rfl

/-- All debts of `O` are to cells above level `n`. -/
def Above (n : ℕ) (O : CellTallies nD τ sig Unit) : Prop := ∀ g u, 0 < O g u → () ∈ L g ∧ n < lv g ()

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (s : SemLoc sig) (k : ℕ) (h : n < lv ((c : Thread nD τ), s) ()) : Above n (tallyAt ((c : Thread nD τ), s) () k) := fun g u hg => by
  rw [tallyAt_apply] at hg
  by_cases hgu : g = ((c : Thread nD τ), s) ∧ u = ()
  · rw [hgu.1]; exact ⟨by rw [L_tc]; exact Finset.mem_singleton_self _, h⟩
  · rw [if_neg hgu] at hg; exact absurd hg (Nat.lt_irrefl 0)

theorem above_R (c : Dev nD) (k : Fin 3) (n : ℕ) (hn : n < 2) : Above n (debtR c k) := Above.tally _ _ _ (by rw [lv_recv]; exact hn)
theorem above_B (c : Dev nD) (k : Fin 3) (n : ℕ) (hn : n < 1) : Above n (debtB c k) := Above.tally _ _ _ (by rw [lv_bar]; exact hn)
theorem above₅ (c : Dev nD) (n : ℕ) (hn : n < 2) : Above n (O₅ c) := (Above.zero n).add (above_R c 2 n hn)
theorem above₄ (c : Dev nD) (n : ℕ) (hn : n < 2) : Above n (O₄ c) := (above₅ c n hn).add (above_R c 0 n hn)
theorem above₃ (c : Dev nD) (n : ℕ) (hn : n < 2) : Above n (O₃ c) := (above₄ c n hn).add (above_R c 1 n hn)
theorem above₀ (c : Dev nD) : Above 0 (O₀ c) :=
  (((above₃ c 0 (by decide)).add (above_B c 2 0 (by decide))).add (above_B c 1 0 (by decide))).add (above_B c 0 0 (by decide))

omit [FloatOps F] in
/-- A wait at a level below all debts may be made. -/
theorem mayWait (c : Dev nD) (s : SemLoc sig) (n : ℕ) (O : CellTallies nD τ sig Unit) (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

end Cert.Routed

end
-- ==== Proof.Moves.lean ====
/-
# The moves of the exchange

One rule for each thing a device does with another: signal it, wait for all signals, send it a block, wait for a block
sent or received; and the wait for a copy it started itself. `owing c O` says that the device owes `O`.
-/
module

public import proofs.«01_k».proof.Proof.Protocol

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- Every cell's invariant, under the name the launch gave it, and that every cell is at round 0; the levels. -/
def records : sProp 𝕄 :=
  iprop((bigSep Finset.univ fun ck : Dev nD × Role => iprop(cellInv ER (Rd (F := F) m ρ) (K ck) (kcell ck) ∗ reached ER (kcell ck) 0)) ∗ levAts L lv)

instance records_persistent : BI.Persistent (records m ρ K) := by unfold records; infer_instance

theorem record_at (ck : Dev nD × Role) : records m ρ K ⊢ iprop(cellInv ER (Rd (F := F) m ρ) (K ck) (kcell ck) ∗ reached ER (kcell ck) 0) := by
  have h : (bigSep Finset.univ fun ck : Dev nD × Role => iprop(cellInv ER (Rd (F := F) m ρ) (K ck) (kcell ck) ∗ reached ER (kcell ck) 0))
      ⊢ (iprop(cellInv ER (Rd (F := F) m ρ) (K ck) (kcell ck) ∗ reached ER (kcell ck) 0) : sProp 𝕄) := bigSep_elim (Finset.mem_univ ck)
  unfold records
  iintro ⟨H, -⟩
  iapply h $$ H

theorem levels_at : records m ρ K ⊢ (levAts L lv : sProp 𝕄) := by
  unfold records
  iintro ⟨-, H⟩
  iexact H

/-- Device `c` owes `O`, whatever it has waited for. -/
def owing (c : Dev nD) (O : CellTallies nD τ sig Unit) : sProp 𝕄 := iprop(∃ W, owes (c : Thread nD τ) O W)

variable {c : Dev nD} {α : Type}

/-- A run that has ended. -/
theorem runs_ret {v : α} {Q : α → sProp 𝕄} : Q v ⊢ runs c (Prog.ret v) Q := by
  show _ ⊢ wp frame (wpE (defs₀ (F := F)) 𝒱₀ (c : Thread nD τ) none) Set.univ (Prog.ret v) Q
  rw [wp_ret]
  iintro H; imodintro; iexact H

/-- Device `c` signals the device `k + 1` positions on, handing over its landing slot `k`. -/
theorem signal {n : Dev nD} (k : Fin 3) (hn : n = peer c k) (O : CellTallies nD τ sig Unit)
    {p : PUnit → Prog (TpuEff nD τ sig (Elt F) Λ₀ .tc) α} {Q : α → sProp 𝕄} :
    iprop(records m ρ K ∗ owing c (O + debtB c k) ∗ dutyTok ER (barCell (peer c k)) 0 k ∗ holds (F := F) c (inSlot k))
      ⊢ iprop((owing c O -∗ runs c (p ⟨⟩) Q) -∗ runs c (.op (.semSignal (n : Thread nD τ) barS 1) p) Q) := by
  subst hn
  unfold owing
  iintro ⟨#HR, ⟨%W, HO⟩, Ht, Hs⟩ Hp
  ihave #⟨HI, Hr⟩ := (record_at m ρ K (peer c k, bar)) $$ HR
  ihave #⟨-, Hr'⟩ := (record_at m ρ K (c, rcv k)) $$ HR
  iapply (Rounds.wp_signal 𝒱₀ ER (Rd m ρ) (c : Thread nD τ) none (dst := (peer c k : Thread nD τ)) (κ := K (peer c k, bar))
      (d := k) (by rw [duties_bar]; exact Finset.mem_univ _) (amount_bar m ρ (peer c k) k) () O rfl) $$ [HO Ht Hs]
  · isplitr; · iexact HI
    isplitl [HO]; · iexact HO
    isplitl [Ht]; · iexact Ht
    isplitl [Hs]
    · rw [payload_bar]; unfold barPay; rw [peer_peer]
      isplitl [Hs]; · iexact Hs
      iexact Hr'
    iexact Hr
  iintro HO
  iapply Hp
  iexists W; iexact HO

/-- The wait for the three signals brings the three landing slots the device sends into. -/
theorem await_signals (O : CellTallies nD τ sig Unit) (hO : Above 1 O)
    {p : PUnit → Prog (TpuEff nD τ sig (Elt F) Λ₀ .tc) α} {Q : α → sProp 𝕄} :
    iprop(records m ρ K ∗ owing c O ∗ cred (tallyAt (barCell c) () 3) ∗ atPos ER (barCell c) 0 ∅ 0)
      ⊢ iprop((iprop(owing c O ∗ semVal (barCell c) 0 ∗ holds (F := F) (peer c 0) (inSlot 2) ∗ holds (F := F) (peer c 1) (inSlot 1) ∗ holds (F := F) (peer c 2) (inSlot 0)) -∗ runs c (p ⟨⟩) Q)
        -∗ runs c (.op (.semWait barS 3) p) Q) := by
  unfold owing
  iintro ⟨#HR, ⟨%W, HO⟩, Hc, Hat⟩ Hp
  ihave #⟨HI, -⟩ := (record_at m ρ K (c, bar)) $$ HR
  iapply (Rounds.wp_wait_rest_token 𝒱₀ ER (Rd m ρ) (c : Thread nD τ) none (κ := K (c, bar))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barS) 1 O (le_of_eq (lv_bar c)) hO)
      iapply (levels_at m ρ K) $$ HR
    iexact Hat
  iintro ⟨HO, Hat, -, Hpay⟩
  ihave Hpay := (Entails.of_eq (rest_bar m ρ c)) $$ Hpay
  unfold barPay
  icases Hpay with ⟨⟨H2, -⟩, ⟨H1, -⟩, ⟨H0, -⟩⟩
  imod (Rounds.cell_close ER (Rd m ρ) (Set.mem_univ (K (c, bar))) (fun h => h) (R := 0 + 1) (duties_later m ρ (barCell c))) $$ [Hat] with Hz
  · isplitr; · iexact HI
    iexact Hat
  iapply Hp
  isplitl [HO]; · iexists _; iexact HO
  isplitl [Hz]; · iexact Hz
  isplitl [H0]; · iexact H0
  isplitl [H1]; · iexact H1
  iexact H2

theorem slot_credit (k : Fin 3) : ((inSlot k).squeeze S96x1024 squeezes_S1x96x1024_S96x1024).view.dmaCredit = N := rfl
theorem got_peer (k : Fin 3) : got m ρ (peer c k) k.rev = sent m ρ c k := by
  unfold got; rw [peer_peer, Fin.rev_rev]

/-- Device `c` sends its block `k` into the slot handed over. -/
theorem send_block {n : Dev nD} (k : Fin 3) (hn : n = peer c k) (O : CellTallies nD τ sig Unit)
    {hsc : ((inSlot k.rev).squeeze S96x1024 squeezes_S1x96x1024_S96x1024).view.ref.isScScratch = false}
    {hsrc : ((outSlot k).squeeze S96x1024 squeezes_S1x96x1024_S96x1024).view.WordExact}
    {hdst : ((inSlot k.rev).squeeze S96x1024 squeezes_S1x96x1024_S96x1024).view.WordExact}
    {hsem : DmaTarget.Typed .vmem (.dma (recvS k.rev)) (.remote (Dev.tc n : Thread nD τ) ((inSlot k.rev).squeeze S96x1024 squeezes_S1x96x1024_S96x1024) (.dma (sendS k)) hsc)}
    {p : PUnit → Prog (TpuEff nD τ sig (Elt F) Λ₀ .tc) α} {Q : α → sProp 𝕄} :
    iprop(records m ρ K ∗ owing c (O + debtR c k) ∗ own c (outSlot k) (sent m ρ c k) ∗ holds (F := F) (peer c k) (inSlot k.rev)
        ∗ dutyTok ER (sendCell c k) 0 0 ∗ dutyTok ER (recvCell (peer c k) k.rev) 0 0)
      ⊢ iprop((iprop(owing c O ∗ cred (tallyAt (sendCell c k) () N)) -∗ runs c (p ⟨⟩) Q)
        -∗ runs c (.op (.enqueueDma ((outSlot k).squeeze S96x1024 squeezes_S1x96x1024_S96x1024)
            (.remote (Dev.tc n : Thread nD τ) ((inSlot k.rev).squeeze S96x1024 squeezes_S1x96x1024_S96x1024) (.dma (sendS k)) hsc) (.dma (recvS k.rev)) hsrc hdst hsem) p) Q) := by
  subst hn
  unfold owing
  simp only [holds, own_def]
  iintro ⟨#HR, ⟨%W, HO⟩, ⟨%f, %hf, Hs⟩, ⟨%Y, %fd, %hfd, Hd⟩, Ht, Ht'⟩ Hp
  ihave #⟨HI, Hr⟩ := (record_at m ρ K (c, snd k)) $$ HR
  ihave #⟨HI', Hr'⟩ := (record_at m ρ K (peer c k, rcv k.rev)) $$ HR
  iapply (Rounds.wp_send_pointsTo 𝒱₀ ER (Rd m ρ) (c : Thread nD τ) none (κ₁ := K (c, snd k)) (κ₂ := K (peer c k, rcv k.rev))
    (c' := (peer c k : Thread nD τ)) (src := (outSlot k).squeeze S96x1024 squeezes_S1x96x1024_S96x1024) (dst := (inSlot k.rev).squeeze S96x1024 squeezes_S1x96x1024_S96x1024)
    (sS := .dma (sendS k)) (sem := .dma (recvS k.rev)) (q := fullShare) (fs := f)
    (r₁ := 0) (r₂ := 0) (d₁ := 0) (d₂ := 0) (fd := fd)
    (by rw [duties_send]; exact Finset.mem_singleton_self _) (by rw [duties_recv]; exact Finset.mem_singleton_self _)
    () () N (slot_credit k.rev) (amount_send m ρ c k 0) (amount_recv m ρ (peer c k) k.rev 0) O rfl (W := W)
    (by
      rw [payload_send, View.set_reshape]
      exact (own_of (outSlot k) f).trans (Entails.of_eq (congrArg (own c (outSlot k)) hf)))
    (by
      rw [payload_recv, got_peer, View.set_reshape]
      exact (own_of (inSlot k.rev) _).trans (Entails.of_eq (congrArg (own (peer c k) (inSlot k.rev))
        ((read_write_squeeze (outSlot k) (inSlot k.rev) squeezes_S1x96x1024_S96x1024 f fd).trans hf))))) $$ [HO Hs Hd Ht Ht']
  · rw [View.set_reshape, View.set_reshape]
    isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hp
  isplitl [HO]; · iexists _; iexact HO
  iexact Hc

/-- The wait for a block sent brings the block back; -/
theorem await_sent (k : Fin 3) {sp sp' : Space} {s : Shape} {e : EltTy} {S : Memref sig .tc sp s e} {D : Memref sig .tc sp' s e}
    (hN : D.view.dmaCredit = N) {hsrc : S.view.WordExact} {hdst : D.view.WordExact}
    {p : PUnit → Prog (TpuEff nD τ sig (Elt F) Λ₀ .tc) α} {Q : α → sProp 𝕄} :
    iprop(records m ρ K ∗ owing c 0 ∗ cred (tallyAt (sendCell c k) () N) ∗ atPos ER (sendCell c k) 0 ∅ 0)
      ⊢ iprop((iprop(owing c 0 ∗ semVal (sendCell c k) 0 ∗ own c (outSlot k) (sent m ρ c k)) -∗ runs c (p ⟨⟩) Q)
        -∗ runs c (.op (.waitDma2 (sendS k) S D hsrc hdst) p) Q) := by
  unfold owing
  iintro ⟨#HR, ⟨%W, HO⟩, Hc, Hat⟩ Hp
  ihave #⟨HI, -⟩ := (record_at m ρ K (c, snd k)) $$ HR
  rw [← hN]
  iapply (Rounds.wp_wait_rest_token 𝒱₀ ER (Rd m ρ) (c : Thread nD τ) none (κ := K (c, snd k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_send m ρ c k)) $$ Hpay
  imod (Rounds.cell_close ER (Rd m ρ) (Set.mem_univ (K (c, snd k))) (fun h => h) (R := 0 + 1) (duties_later m ρ (sendCell c k))) $$ [Hat] with Hz
  · isplitr; · iexact HI
    iexact Hat
  iapply Hp
  isplitl [HO]; · iexists _; iexact HO
  isplitl [Hz]; · iexact Hz
  iexact Hpay

/-- and the wait for a block received brings the slot at what its sender sent. -/
theorem await_got (k : Fin 3) {sp sp' : Space} {s : Shape} {e : EltTy} {S : Memref sig .tc sp s e} {D : Memref sig .tc sp' s e}
    (hN : D.view.dmaCredit = N) {hsrc : S.view.WordExact} {hdst : D.view.WordExact}
    {p : PUnit → Prog (TpuEff nD τ sig (Elt F) Λ₀ .tc) α} {Q : α → sProp 𝕄} :
    iprop(records m ρ K ∗ owing c 0 ∗ cred (tallyAt (recvCell c k) () N) ∗ atPos ER (recvCell c k) 0 ∅ 0)
      ⊢ iprop((iprop(owing c 0 ∗ semVal (recvCell c k) 0 ∗ own c (inSlot k) (got m ρ c k)) -∗ runs c (p ⟨⟩) Q)
        -∗ runs c (.op (.waitDma2 (recvS k) S D hsrc hdst) p) Q) := by
  unfold owing
  iintro ⟨#HR, ⟨%W, HO⟩, Hc, Hat⟩ Hp
  ihave #⟨HI, -⟩ := (record_at m ρ K (c, rcv k)) $$ HR
  rw [← hN]
  iapply (Rounds.wp_wait_rest_token 𝒱₀ ER (Rd m ρ) (c : Thread nD τ) none (κ := K (c, rcv k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_recv m ρ c k)) $$ Hpay
  imod (Rounds.cell_close ER (Rd m ρ) (Set.mem_univ (K (c, rcv k))) (fun h => h) (R := 0 + 1) (duties_later m ρ (recvCell c k))) $$ [Hat] with Hz
  · isplitr; · iexact HI
    iexact Hat
  iapply Hp
  isplitl [HO]; · iexists _; iexact HO
  isplitl [Hz]; · iexact Hz
  iexact Hpay

theorem lv_copy (e : Fin 5) : lv ((c : Thread nD τ), .dma (copyS e)) () = 0 := by unfold lv; rw [role_copy]; rfl

/-- The wait for a copy the device started itself, whatever it still owes. -/
theorem await_copy (e : Fin 5) {sp sp' : Space} {s : Shape} {t : EltTy} {S : Memref sig .tc sp s t} {D : Memref sig .tc sp' s t}
    {M : ℕ} (hM : D.view.dmaCredit = M) (O : CellTallies nD τ sig Unit) (hO : Above 0 O) {hsrc : S.view.WordExact} {hdst : D.view.WordExact} {P : sProp 𝕄}
    {p : PUnit → Prog (TpuEff nD τ sig (Elt F) Λ₀ .tc) α} {Q : α → sProp 𝕄} :
    iprop(records m ρ K ∗ owing c O ∗ Transfers.Flight (EC (F := F)) (c : Thread nD τ) (.dma (copyS e)) () M P)
      ⊢ iprop((iprop(owing c O ∗ semVal ((c : Thread nD τ), .dma (copyS e)) 0 ∗ P) -∗ runs c (p ⟨⟩) Q)
        -∗ runs c (.op (.waitDma2 (copyS e) S D hsrc hdst) p) Q) := by
  unfold owing
  iintro ⟨#HR, ⟨%W, HO⟩, HF⟩ Hp
  iapply (Transfers.wp_waitLocalO (EC (F := F)) 𝒱₀ (c : Thread nD τ) none () hM) $$ [HF HO]
  · isplitl [HF]; · iexact HF
    isplitl [HO]; · iexact HO
    iapply (mayWait c (.dma (copyS e)) 0 O (le_of_eq (lv_copy e)) hO)
    iapply (levels_at m ρ K) $$ HR
  iintro ⟨HP, Hz, HO⟩
  iapply Hp
  isplitl [HO]; · iexists _; iexact HO
  isplitl [Hz]; · iexact Hz
  iexact HP

end Cert.Routed

end
-- ==== Proof.Start.lean ====
/-
# The run, its first parts

The device starts the copies of its experts' weights, signals the others, waits for their signals, and scales the rows.
-/
module

public import proofs.«01_k».proof.Proof.Moves

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)
variable {c : Dev nD} (a : Given F)

/-- The credit of one slab's copy, and of the shared expert's weights'. -/
abbrev NW : ℕ := ((wvSlab 0).squeeze S512x1024 squeezes_S1x512x1024_S512x1024).view.dmaCredit
theorem NW_pos : 0 < NW := View.dmaCredit_pos _ (by decide)
abbrev NS : ℕ := svM.view.dmaCredit
theorem NS_pos : 0 < NS := View.dmaCredit_pos _ (by decide)

/-- The copy of expert `e`'s slab under way, and the shared expert's. -/
abbrev flying (c : Dev nD) (a : Given F) (e : Fin 4) : sProp 𝕄 :=
  Transfers.Flight (EC (F := F)) (c : Thread nD τ) (.dma (copyS e.castSucc)) () NW iprop(own c (wvSlab e) (a.w e) ∗ own c (wSlab e) (a.w e))
abbrev flyingS (c : Dev nD) (a : Given F) : sProp 𝕄 :=
  Transfers.Flight (EC (F := F)) (c : Thread nD τ) (.dma (copyS 4)) () NS iprop(own c svM a.s ∗ own c sM a.s)
abbrev free (c : Dev nD) (e : Fin 5) : sProp 𝕄 := semVal ((c : Thread nD τ), .dma (copyS e)) 0

theorem off0 : (![0, 0] : Fin 2 → ℕ) = fun _ => 0 := funext fun i => by fin_cases i <;> rfl

/-- The first three copies start. -/
theorem part1_run {Q : _ → sProp 𝕄} :
    iprop((own c (wSlab 0) (a.w 0) ∗ holds (F := F) c (wvSlab 0) ∗ free c 0)
        ∗ (own c (wSlab 1) (a.w 1) ∗ holds (F := F) c (wvSlab 1) ∗ free c 1)
        ∗ (own c (wSlab 2) (a.w 2) ∗ holds (F := F) c (wvSlab 2) ∗ free c 2))
      ⊢ iprop((iprop(flying c a 0
        ∗ flying c a 1
        ∗ flying c a 2) -∗ Q ⟨c, me c⟩) -∗ runs c (k0_part1 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9) Q) := by
  rw [k0_part1_eq_skeleton]; unfold k0_part1_skel
  simp only [semSignalWord, semWaitWord, Prog.lift, Prog.bind_op, Prog.bind_ret, Prog.pure_eq_ret, wp_deviceId]
  dsimp only [me]
  iintro ⟨⟨W0, V0, Z0⟩, ⟨W1, V1, Z1⟩, ⟨W2, V2, Z2⟩⟩ Hk
  iapply (copy_start (c := c) (S := wSlab 0) (D := wvSlab 0) (X := a.w 0) NW rfl NW_pos) $$ [W0 V0 Z0]
  · isplitl [W0]; · iexact W0
    isplitl [V0]; · iexact V0
    iexact Z0
  iintro F0
  iapply (copy_start (c := c) (S := wSlab 1) (D := wvSlab 1) (X := a.w 1) NW rfl NW_pos) $$ [W1 V1 Z1]
  · isplitl [W1]; · iexact W1
    isplitl [V1]; · iexact V1
    iexact Z1
  iintro F1
  iapply (copy_start (c := c) (S := wSlab 2) (D := wvSlab 2) (X := a.w 2) NW rfl NW_pos) $$ [W2 V2 Z2]
  · isplitl [W2]; · iexact W2
    isplitl [V2]; · iexact V2
    iexact Z2
  iintro F2
  iapply runs_ret
  iapply Hk
  isplitl [F0]; · iexact F0
  isplitl [F1]; · iexact F1
  iexact F2

/-- The other two copies start; the device signals the next two devices. -/
theorem part2_run (v2 : BitVec 32) {Q : _ → sProp 𝕄} :
    iprop(records m ρ K
        ∗ (own c (wSlab 3) (a.w 3) ∗ holds (F := F) c (wvSlab 3) ∗ free c 3)
        ∗ (own c sM a.s ∗ holds (F := F) c svM ∗ free c 4)
        ∗ owing c (O₀ c)
        ∗ (dutyTok ER (barCell (peer c 0)) 0 0 ∗ holds (F := F) c (inSlot 0))
        ∗ (dutyTok ER (barCell (peer c 1)) 0 1 ∗ holds (F := F) c (inSlot 1)))
      ⊢ iprop((∀ w1 w2 w3, iprop(flying c a 3
        ∗ flyingS c a
        ∗ owing c (O₂ c)) -∗ Q ⟨SemArray.scalar (sig.barrier 0 rfl), w1, w2, w3⟩) -∗ runs c (k0_part2 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c v2) Q) := by
  rw [k0_part2_eq_skeleton]; unfold k0_part2_skel
  simp only [semSignalWord, semWaitWord, Prog.lift, Prog.bind_op, Prog.bind_ret, Prog.pure_eq_ret, wp_deviceId]
  iintro ⟨#HR, ⟨W3, V3, Z3⟩, ⟨HS, HV, HZ⟩, HO, ⟨T0, I0⟩, ⟨T1, I1⟩⟩ Hk
  iapply (copy_start (c := c) (S := wSlab 3) (D := wvSlab 3) (X := a.w 3) NW rfl NW_pos) $$ [W3 V3 Z3]
  · isplitl [W3]; · iexact W3
    isplitl [V3]; · iexact V3
    iexact Z3
  iintro F3
  iapply (copy_start_whole (c := c) (S := sM) (D := svM) (X := a.s) NS rfl NS_pos) $$ [HS HV HZ]
  · isplitl [HS]; · iexact HS
    isplitl [HV]; · iexact HV
    iexact HZ
  iintro FS
  iapply (signal m ρ K 0 (dev1_eq c) (O₁ c)) $$ [HO T0 I0]
  · isplitr; · iexact HR
    isplitl [HO]; · iexact HO
    isplitl [T0]; · iexact T0
    iexact I0
  iintro HO
  iapply (signal m ρ K 1 (dev2_eq c) (O₂ c)) $$ [HO T1 I1]
  · isplitr; · iexact HR
    isplitl [HO]; · iexact HO
    isplitl [T1]; · iexact T1
    iexact I1
  iintro HO
  iapply runs_ret
  iapply Hk
  isplitl [F3]; · iexact F3
  isplitl [FS]; · iexact FS
  iexact HO

/-- The last signal; then the wait for the others'; the rows, the router's weights and the chosen experts are loaded. -/
theorem part3_run (w1 w2 : BitVec 32) (w3 : BitVec 1) {Q : _ → sProp 𝕄} :
    iprop(records m ρ K
        ∗ owing c (O₂ c)
        ∗ (dutyTok ER (barCell (peer c 2)) 0 2 ∗ holds (F := F) c (inSlot 2))
        ∗ cred (tallyAt (barCell c) () 3)
        ∗ atPos ER (barCell c) 0 ∅ 0
        ∗ own c xM a.x
        ∗ own c rM a.r
        ∗ own c iM a.i)
      ⊢ iprop((iprop(owing c (O₃ c)
        ∗ semVal (barCell c) 0
        ∗ (holds (F := F) (peer c 0) (inSlot 2) ∗ holds (F := F) (peer c 1) (inSlot 1) ∗ holds (F := F) (peer c 2) (inSlot 0))
        ∗ own c xM a.x
        ∗ own c rM a.r
        ∗ own c iM a.i) -∗ Q ⟨k0_pay1 a.i, k0_pay2 a.x a.r a.i⟩) -∗ runs c (k0_part3 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (SemArray.scalar (sig.barrier 0 rfl)) w1 w2 w3) Q) := by
  rw [k0_part3_eq_skeleton]; unfold k0_part3_skel
  simp only [semSignalWord, semWaitWord, Prog.lift, Prog.bind_op, Prog.bind_ret, Prog.pure_eq_ret, wp_deviceId]
  iintro ⟨#HR, HO, ⟨T2, I2⟩, HC, HA, Hx, Hr, Hi⟩ Hk
  iapply (signal m ρ K 2 (dev3_eq c) (O₃ c)) $$ [HO T2 I2]
  · isplitr; · iexact HR
    isplitl [HO]; · iexact HO
    isplitl [T2]; · iexact T2
    iexact I2
  iintro HO
  iapply (await_signals m ρ K (O₃ c) (above₃ c 1 (by decide))) $$ [HO HC HA]
  · isplitr; · iexact HR
    isplitl [HO]; · iexact HO
    isplitl [HC]; · iexact HC
    iexact HA
  iintro ⟨HO, HZ, HP⟩
  iapply (load_full (M := xM) off0) $$ Hx; iintro Hx
  iapply (load_full (M := rM) off0) $$ Hr; iintro Hr
  iapply (load_full (M := iM) off0) $$ Hi; iintro Hi
  iapply runs_ret
  iapply Hk
  isplitl [HO]; · iexact HO
  isplitl [HZ]; · iexact HZ
  isplitl [HP]; · iexact HP
  isplitl [Hx]; · iexact Hx
  isplitl [Hr]; · iexact Hr
  iexact Hi

/-- The scaled rows and the float experts are stored; the device's own chosen experts are loaded. -/
theorem part4_run {Q : _ → sProp 𝕄} :
    iprop(holds (F := F) c xsM
        ∗ holds (F := F) c ibM
        ∗ own c iM a.i)
      ⊢ iprop((∀ w, iprop(own c xsM a.xs
        ∗ own c ibM a.ib
        ∗ own c iM a.i) -∗ Q ⟨Given.tri, Given.io, w, k0_pay6 (me c) (a.ownIdx c), k0_pay7 (me c) (a.ownIdx c), Given.z1⟩) -∗ runs c (k0_part4 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) (k0_pay1 a.i) (k0_pay2 a.x a.r a.i)) Q) := by
  rw [k0_part4_eq_skeleton]; unfold k0_part4_skel
  simp only [semSignalWord, semWaitWord, Prog.lift, Prog.bind_op, Prog.bind_ret, Prog.pure_eq_ret, wp_deviceId]
  dsimp only [Given.xs, Given.ib]
  iintro ⟨⟨%X, Hxs⟩, ⟨%Y, Hib⟩, Hi⟩ Hk
  iapply (load_full (M := xsM) off0) $$ Hxs; iintro Hxs
  iapply (store_full (M := xsM) off0) $$ [Hxs]; · iexists X; iexact Hxs
  iintro Hxs
  iapply (load_full (M := ibM) off0) $$ Hib; iintro Hib
  iapply (store_full (M := ibM) off0) $$ [Hib]; · iexists Y; iexact Hib
  iintro Hib
  iapply (load_named (M := iM) (r := ownI c) (a.ownIdx c) rfl) $$ Hi; iintro Hi
  iapply runs_ret
  iapply Hk
  isplitl [Hxs]; · iexact Hxs
  isplitl [Hib]; · iexact Hib
  iexact Hi

/-- Where the first received block goes. -/
theorem part5_run (v110 : BitVec 32) {Q : _ → sProp 𝕄} :
    own c iM a.i
      ⊢ iprop((own c iM a.i -∗ Q ⟨a.back0 c, k0_pay9 (me c) Given.tri Given.io (a.ownIdx c)⟩) -∗ runs c (k0_part5 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io v110 (k0_pay6 (me c) (a.ownIdx c)) (k0_pay7 (me c) (a.ownIdx c)) Given.z1) Q) := by
  rw [k0_part5_eq_skeleton]; unfold k0_part5_skel
  simp only [semSignalWord, semWaitWord, Prog.lift, Prog.bind_op, Prog.bind_ret, Prog.pure_eq_ret, wp_deviceId]
  dsimp only [Given.back0, Given.back1, Given.back2]
  iintro Hi Hk
  iapply (load_named (M := iM) (r := ownI c) (a.ownIdx c) rfl) $$ Hi; iintro Hi
  iapply runs_ret
  iapply Hk
  iexact Hi

/-- Where the others go. -/
theorem part6_run (v110 : BitVec 32) {Q : _ → sProp 𝕄} :
    own c iM a.i
      ⊢ iprop((∀ w, own c iM a.i -∗ Q ⟨a.back1 c, a.back2 c, w, 1#32⟩) -∗ runs c (k0_part6 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io v110 (k0_pay9 (me c) Given.tri Given.io (a.ownIdx c))) Q) := by
  rw [k0_part6_eq_skeleton]; unfold k0_part6_skel
  simp only [semSignalWord, semWaitWord, Prog.lift, Prog.bind_op, Prog.bind_ret, Prog.pure_eq_ret, wp_deviceId]
  dsimp only [Given.back0, Given.back1, Given.back2]
  iintro Hi Hk
  iapply (load_named (M := iM) (r := ownI c) (a.ownIdx c) rfl) $$ Hi; iintro Hi
  iapply runs_ret
  iapply Hk
  iexact Hi

end Cert.Routed

end
-- ==== Proof.Near.lean ====
/-
# The first block sent

For the chunk two positions on: its rows for this device's experts are gathered, multiplied by each expert's weights
as these arrive, and the block of products is sent.
-/
module

public import proofs.«01_k».proof.Proof.Start

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)
variable {c : Dev nD} (a : Given F)

theorem slab_credit (e : Fin 4) : ((wvSlab e).squeeze S512x1024 squeezes_S1x512x1024_S512x1024).view.dmaCredit = NW := rfl

/-- The rows and chosen experts of the chunk two positions on, gathered. -/
theorem part7_run (w1 w2 : BitVec 32) {Q : _ → sProp 𝕄} :
    iprop(own c iM a.i
        ∗ own c xsM a.xs
        ∗ own c ibM a.ib)
      ⊢ iprop((∀ w, iprop(own c iM a.i
        ∗ own c xsM a.xs
        ∗ own c ibM a.ib) -∗ Q ⟨w, a.m1 c, a.xp1 c, a.farIb c 1, Given.z96⟩) -∗ runs c (k0_part7 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io w1 w2) Q) := by
  rw [k0_part7_eq_skeleton]; unfold k0_part7_skel
  simp only [semSignalWord, semWaitWord, Prog.lift, Prog.bind_op, Prog.bind_ret, Prog.pure_eq_ret, wp_deviceId]
  dsimp only [Given.m1, Given.xp1]
  iintro ⟨Hi, Hxs, Hib⟩ Hk
  iapply (load_named (M := iM) (r := farI c 1) (a.farIdx c 1) rfl) $$ Hi; iintro Hi
  iapply (load_named (M := xsM) (r := farX c 1) (a.farXs c 1) rfl) $$ Hxs; iintro Hxs
  iapply (load_named (M := ibM) (r := farI c 1) (a.farIb c 1) rfl) $$ Hib; iintro Hib
  iapply runs_ret
  iapply Hk
  isplitl [Hi]; · iexact Hi
  isplitl [Hxs]; · iexact Hxs
  iexact Hib

/-- The first expert's weights have come, and its products are added. -/
theorem part8_run {Q : _ → sProp 𝕄} :
    iprop(records m ρ K
        ∗ owing c (O₃ c)
        ∗ flying c a 0
        ∗ holds (F := F) c (wbSlab 0))
      ⊢ iprop((iprop(owing c (O₃ c)
        ∗ free c 0
        ∗ own c (wvSlab 0) (a.w 0)
        ∗ own c (wSlab 0) (a.w 0)
        ∗ own c (wbSlab 0) (a.eb 0)) -∗ Q ⟨a.ip1 c, a.p1 c⟩) -∗ runs c (k0_part8 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) (a.m1 c) (a.xp1 c) (a.farIb c 1) Given.z96) Q) := by
  rw [k0_part8_eq_skeleton]; unfold k0_part8_skel
  simp only [semSignalWord, semWaitWord, Prog.lift, Prog.bind_op, Prog.bind_ret, Prog.pure_eq_ret, wp_deviceId]
  dsimp only [Given.ip1, Given.p1, Given.eb]
  iintro ⟨#HR, HO, F0, B0⟩ Hk
  iapply (await_copy m ρ K 0 (slab_credit 0) (O₃ c) (above₃ c 0 (by decide))) $$ [HO F0]
  · isplitr; · iexact HR
    isplitl [HO]; · iexact HO
    iexact F0
  iintro ⟨HO, Z0, V0, W0⟩
  iapply (load_own (M := wvM) (r := slab 0) (hr := fun _ => rfl)) $$ V0; iintro V0
  iapply (load_any (M := wbM) (r := slab 0) (hr := fun _ => rfl)) $$ B0; iintro %_ B0
  iapply (store_own (M := wbM) (r := slab 0) (hr := fun _ => rfl)) $$ B0; iintro B0
  iapply (load_own (M := wbM) (r := slab 0) (hr := fun _ => rfl)) $$ B0; iintro B0
  iapply runs_ret
  iapply Hk
  isplitl [HO]; · iexact HO
  isplitl [Z0]; · iexact Z0
  isplitl [V0]; · iexact V0
  isplitl [W0]; · iexact W0
  iexact B0

/-- The second expert. -/
theorem part9_run {Q : _ → sProp 𝕄} :
    iprop(records m ρ K
        ∗ owing c (O₃ c)
        ∗ flying c a 1
        ∗ flying c a 2
        ∗ holds (F := F) c (wbSlab 1))
      ⊢ iprop((iprop(owing c (O₃ c)
        ∗ free c 1
        ∗ own c (wvSlab 1) (a.w 1)
        ∗ own c (wSlab 1) (a.w 1)
        ∗ free c 2
        ∗ own c (wvSlab 2) (a.w 2)
        ∗ own c (wSlab 2) (a.w 2)
        ∗ own c (wbSlab 1) (a.eb 1)) -∗ Q (a.p2 c)) -∗ runs c (k0_part9 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) (a.xp1 c) (a.ip1 c) (a.p1 c)) Q) := by
  rw [k0_part9_eq_skeleton]; unfold k0_part9_skel
  simp only [semSignalWord, semWaitWord, Prog.lift, Prog.bind_op, Prog.bind_ret, Prog.pure_eq_ret, wp_deviceId]
  dsimp only [Given.p2, Given.eb]
  iintro ⟨#HR, HO, F1, F2, B1⟩ Hk
  iapply (await_copy m ρ K 1 (slab_credit 1) (O₃ c) (above₃ c 0 (by decide))) $$ [HO F1]
  · isplitr; · iexact HR
    isplitl [HO]; · iexact HO
    iexact F1
  iintro ⟨HO, Z1, V1, W1⟩
  iapply (load_own (M := wvM) (r := slab 1) (hr := fun _ => rfl)) $$ V1; iintro V1
  iapply (load_any (M := wbM) (r := slab 1) (hr := fun _ => rfl)) $$ B1; iintro %_ B1
  iapply (store_own (M := wbM) (r := slab 1) (hr := fun _ => rfl)) $$ B1; iintro B1
  iapply (load_own (M := wbM) (r := slab 1) (hr := fun _ => rfl)) $$ B1; iintro B1
  iapply (await_copy m ρ K 2 (slab_credit 2) (O₃ c) (above₃ c 0 (by decide))) $$ [HO F2]
  · isplitr; · iexact HR
    isplitl [HO]; · iexact HO
    iexact F2
  iintro ⟨HO, Z2, V2, W2⟩
  iapply runs_ret
  iapply Hk
  isplitl [HO]; · iexact HO
  isplitl [Z1]; · iexact Z1
  isplitl [V1]; · iexact V1
  isplitl [W1]; · iexact W1
  isplitl [Z2]; · iexact Z2
  isplitl [V2]; · iexact V2
  isplitl [W2]; · iexact W2
  iexact B1

/-- The third expert; the fourth's weights are stored. -/
theorem part10_run {Q : _ → sProp 𝕄} :
    iprop(records m ρ K
        ∗ owing c (O₃ c)
        ∗ own c (wvSlab 2) (a.w 2)
        ∗ flying c a 3
        ∗ holds (F := F) c (wbSlab 2)
        ∗ holds (F := F) c (wbSlab 3))
      ⊢ iprop((iprop(owing c (O₃ c)
        ∗ own c (wvSlab 2) (a.w 2)
        ∗ free c 3
        ∗ own c (wvSlab 3) (a.w 3)
        ∗ own c (wSlab 3) (a.w 3)
        ∗ own c (wbSlab 2) (a.eb 2)
        ∗ own c (wbSlab 3) (a.eb 3)) -∗ Q (a.p3 c)) -∗ runs c (k0_part10 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) (a.xp1 c) (a.ip1 c) (a.p2 c)) Q) := by
  rw [k0_part10_eq_skeleton]; unfold k0_part10_skel
  simp only [semSignalWord, semWaitWord, Prog.lift, Prog.bind_op, Prog.bind_ret, Prog.pure_eq_ret, wp_deviceId]
  dsimp only [Given.p3, Given.eb]
  iintro ⟨#HR, HO, V2, F3, B2, B3⟩ Hk
  iapply (load_own (M := wvM) (r := slab 2) (hr := fun _ => rfl)) $$ V2; iintro V2
  iapply (load_any (M := wbM) (r := slab 2) (hr := fun _ => rfl)) $$ B2; iintro %_ B2
  iapply (store_own (M := wbM) (r := slab 2) (hr := fun _ => rfl)) $$ B2; iintro B2
  iapply (load_own (M := wbM) (r := slab 2) (hr := fun _ => rfl)) $$ B2; iintro B2
  iapply (await_copy m ρ K 3 (slab_credit 3) (O₃ c) (above₃ c 0 (by decide))) $$ [HO F3]
  · isplitr; · iexact HR
    isplitl [HO]; · iexact HO
    iexact F3
  iintro ⟨HO, Z3, V3, W3⟩
  iapply (load_own (M := wvM) (r := slab 3) (hr := fun _ => rfl)) $$ V3; iintro V3
  iapply (load_any (M := wbM) (r := slab 3) (hr := fun _ => rfl)) $$ B3; iintro %_ B3
  iapply (store_own (M := wbM) (r := slab 3) (hr := fun _ => rfl)) $$ B3; iintro B3
  iapply runs_ret
  iapply Hk
  isplitl [HO]; · iexact HO
  isplitl [V2]; · iexact V2
  isplitl [Z3]; · iexact Z3
  isplitl [V3]; · iexact V3
  isplitl [W3]; · iexact W3
  isplitl [B2]; · iexact B2
  iexact B3

/-- The fourth expert; the block goes to the device two positions on. -/
theorem part11_run (hs : a.send c 1 = sent m ρ c 1) (w1 : BitVec 32) {Q : _ → sProp 𝕄} :
    iprop(records m ρ K
        ∗ owing c (O₃ c)
        ∗ own c (wbSlab 3) (a.eb 3)
        ∗ holds (F := F) c (outSlot 1)
        ∗ (holds (F := F) (peer c 1) (inSlot 1) ∗ dutyTok ER (sendCell c 1) 0 0 ∗ dutyTok ER (recvCell (peer c 1) 1) 0 0))
      ⊢ iprop((∀ w1 w2 w3 w4, iprop(owing c (O₄ c)
        ∗ own c (wbSlab 3) (a.eb 3)
        ∗ cred (tallyAt (sendCell c 1) () N)) -∗ Q ⟨w1, w2, w3, w4⟩) -∗ runs c (k0_part11 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) w1 (a.xp1 c) (a.ip1 c) (a.p3 c)) Q) := by
  rw [k0_part11_eq_skeleton]; unfold k0_part11_skel
  simp only [semSignalWord, semWaitWord, Prog.lift, Prog.bind_op, Prog.bind_ret, Prog.pure_eq_ret, wp_deviceId]
  iintro ⟨#HR, HO, B3, Hs, HL, HT, HT'⟩ Hk
  iapply (load_own (M := wbM) (r := slab 3) (hr := fun _ => rfl)) $$ B3; iintro B3
  iapply (load_any (M := outM) (r := slot 1) (hr := fun _ => rfl)) $$ Hs; iintro %_ Hs
  iapply (store_own (M := outM) (r := slot 1) (hr := fun _ => rfl)) $$ Hs; iintro Hs
  rw [show k0_pay22 (me c) (a.xp1 c) (a.ip1 c) (a.p3 c) (a.eb 3) = sent m ρ c 1 from hs]
  iapply (send_block m ρ K 1 (dev4_eq c) (O₄ c)) $$ [HO Hs HL HT HT']
  · isplitr; · iexact HR
    isplitl [HO]; · iexact HO
    isplitl [Hs]; · iexact Hs
    isplitl [HL]; · iexact HL
    isplitl [HT]; · iexact HT
    iexact HT'
  iintro ⟨HO, HC⟩
  iapply runs_ret
  iapply Hk
  isplitl [HO]; · iexact HO
  isplitl [B3]; · iexact B3
  iexact HC

end Cert.Routed

end
-- ==== Proof.Far.lean ====
/-
# The other two blocks sent

The same for the next chunk, and for the chunk three positions on.
-/
module

public import proofs.«01_k».proof.Proof.Near

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)
variable {c : Dev nD} (a : Given F)

/-- The rows and chosen experts of the next chunk, gathered. -/
theorem part12_run (w1 w2 w4 : BitVec 32) (w3 : BitVec 1) {Q : _ → sProp 𝕄} :
    iprop(own c iM a.i
        ∗ own c xsM a.xs
        ∗ own c ibM a.ib)
      ⊢ iprop((∀ w, iprop(own c iM a.i
        ∗ own c xsM a.xs
        ∗ own c ibM a.ib) -∗ Q ⟨w, a.xp0 c, a.ip0 c, k0_pay26, Scalar.muli (me c) 4#32⟩) -∗ runs c (k0_part12 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io w1 w2 w3 w4) Q) := by
  rw [k0_part12_eq_skeleton]; unfold k0_part12_skel
  simp only [semSignalWord, semWaitWord, Prog.lift, Prog.bind_op, Prog.bind_ret, Prog.pure_eq_ret, wp_deviceId]
  dsimp only [Given.xp0, Given.ip0]
  iintro ⟨Hi, Hxs, Hib⟩ Hk
  iapply (load_named (M := iM) (r := farI c 0) (a.farIdx c 0) rfl) $$ Hi; iintro Hi
  iapply (load_named (M := xsM) (r := farX c 0) (a.farXs c 0) rfl) $$ Hxs; iintro Hxs
  iapply (load_named (M := ibM) (r := farI c 0) (a.farIb c 0) rfl) $$ Hib; iintro Hib
  iapply runs_ret
  iapply Hk
  isplitl [Hi]; · iexact Hi
  isplitl [Hxs]; · iexact Hxs
  iexact Hib

/-- Its products with the first two experts. -/
theorem part13_run {Q : _ → sProp 𝕄} :
    iprop(own c (wbSlab 0) (a.eb 0)
        ∗ own c (wbSlab 1) (a.eb 1))
      ⊢ iprop((iprop(own c (wbSlab 0) (a.eb 0)
        ∗ own c (wbSlab 1) (a.eb 1)) -∗ Q ⟨a.q1 c, a.q2 c⟩) -∗ runs c (k0_part13 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) (a.xp0 c) (a.ip0 c) k0_pay26 (Scalar.muli (me c) 4#32)) Q) := by
  rw [k0_part13_eq_skeleton]; unfold k0_part13_skel
  simp only [semSignalWord, semWaitWord, Prog.lift, Prog.bind_op, Prog.bind_ret, Prog.pure_eq_ret, wp_deviceId]
  dsimp only [Given.q1, Given.q2]
  iintro ⟨B0, B1⟩ Hk
  iapply (load_own (M := wbM) (r := slab 0) (hr := fun _ => rfl)) $$ B0; iintro B0
  iapply (load_own (M := wbM) (r := slab 1) (hr := fun _ => rfl)) $$ B1; iintro B1
  iapply runs_ret
  iapply Hk
  isplitl [B0]; · iexact B0
  iexact B1

/-- Its products with the other two; the block goes to the next device. -/
theorem part14_run (hs : a.send c 0 = sent m ρ c 0) (w1 : BitVec 32) {Q : _ → sProp 𝕄} :
    iprop(records m ρ K
        ∗ owing c (O₄ c)
        ∗ own c (wbSlab 2) (a.eb 2)
        ∗ own c (wbSlab 3) (a.eb 3)
        ∗ holds (F := F) c (outSlot 0)
        ∗ (holds (F := F) (peer c 0) (inSlot 2) ∗ dutyTok ER (sendCell c 0) 0 0 ∗ dutyTok ER (recvCell (peer c 0) 2) 0 0))
      ⊢ iprop((iprop(owing c (O₅ c)
        ∗ own c (wbSlab 2) (a.eb 2)
        ∗ own c (wbSlab 3) (a.eb 3)
        ∗ cred (tallyAt (sendCell c 0) () N)) -∗ Q (1#32)) -∗ runs c (k0_part14 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) w1 (a.xp0 c) (a.ip0 c) (a.q1 c) (a.q2 c)) Q) := by
  rw [k0_part14_eq_skeleton]; unfold k0_part14_skel
  simp only [semSignalWord, semWaitWord, Prog.lift, Prog.bind_op, Prog.bind_ret, Prog.pure_eq_ret, wp_deviceId]
  iintro ⟨#HR, HO, B2, B3, Hs, HL, HT, HT'⟩ Hk
  iapply (load_own (M := wbM) (r := slab 2) (hr := fun _ => rfl)) $$ B2; iintro B2
  iapply (load_own (M := wbM) (r := slab 3) (hr := fun _ => rfl)) $$ B3; iintro B3
  iapply (load_any (M := outM) (r := slot 0) (hr := fun _ => rfl)) $$ Hs; iintro %_ Hs
  iapply (store_own (M := outM) (r := slot 0) (hr := fun _ => rfl)) $$ Hs; iintro Hs
  rw [show k0_pay29 (me c) (a.xp0 c) (a.ip0 c) (a.q1 c) (a.q2 c) (a.eb 2) (a.eb 3) = sent m ρ c 0 from hs]
  iapply (send_block m ρ K 0 (dev5_eq c) (O₅ c)) $$ [HO Hs HL HT HT']
  · isplitr; · iexact HR
    isplitl [HO]; · iexact HO
    isplitl [Hs]; · iexact Hs
    isplitl [HL]; · iexact HL
    isplitl [HT]; · iexact HT
    iexact HT'
  iintro ⟨HO, HC⟩
  iapply runs_ret
  iapply Hk
  isplitl [HO]; · iexact HO
  isplitl [B2]; · iexact B2
  isplitl [B3]; · iexact B3
  iexact HC

/-- The rows of the chunk three positions on, gathered; -/
theorem part15_run (w1 : BitVec 32) {Q : _ → sProp 𝕄} :
    iprop(own c iM a.i
        ∗ own c xsM a.xs)
      ⊢ iprop((∀ w, iprop(own c iM a.i
        ∗ own c xsM a.xs) -∗ Q ⟨w, a.m2 c, a.xp2 c⟩) -∗ runs c (k0_part15 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io w1) Q) := by
  rw [k0_part15_eq_skeleton]; unfold k0_part15_skel
  simp only [semSignalWord, semWaitWord, Prog.lift, Prog.bind_op, Prog.bind_ret, Prog.pure_eq_ret, wp_deviceId]
  dsimp only [Given.m2, Given.xp2]
  iintro ⟨Hi, Hxs⟩ Hk
  iapply (load_named (M := iM) (r := farI c 2) (a.farIdx c 2) rfl) $$ Hi; iintro Hi
  iapply (load_named (M := xsM) (r := farX c 2) (a.farXs c 2) rfl) $$ Hxs; iintro Hxs
  iapply runs_ret
  iapply Hk
  isplitl [Hi]; · iexact Hi
  iexact Hxs

/-- its chosen experts, and its products with the first two experts; -/
theorem part16_run {Q : _ → sProp 𝕄} :
    iprop(own c ibM a.ib
        ∗ own c (wbSlab 0) (a.eb 0)
        ∗ own c (wbSlab 1) (a.eb 1))
      ⊢ iprop((iprop(own c ibM a.ib
        ∗ own c (wbSlab 0) (a.eb 0)
        ∗ own c (wbSlab 1) (a.eb 1)) -∗ Q ⟨a.ip2 c, a.r1 c, a.r2 c, Given.one, Given.zero⟩) -∗ runs c (k0_part16 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) (a.m2 c) (a.xp2 c)) Q) := by
  rw [k0_part16_eq_skeleton]; unfold k0_part16_skel
  simp only [semSignalWord, semWaitWord, Prog.lift, Prog.bind_op, Prog.bind_ret, Prog.pure_eq_ret, wp_deviceId]
  dsimp only [Given.ip2, Given.r1, Given.r2]
  iintro ⟨Hib, B0, B1⟩ Hk
  iapply (load_named (M := ibM) (r := farI c 2) (a.farIb c 2) rfl) $$ Hib; iintro Hib
  iapply (load_own (M := wbM) (r := slab 0) (hr := fun _ => rfl)) $$ B0; iintro B0
  iapply (load_own (M := wbM) (r := slab 1) (hr := fun _ => rfl)) $$ B1; iintro B1
  iapply runs_ret
  iapply Hk
  isplitl [Hib]; · iexact Hib
  isplitl [B0]; · iexact B0
  iexact B1

/-- and with the other two. -/
theorem part17_run (w1 : BitVec 32) {Q : _ → sProp 𝕄} :
    iprop(own c (wbSlab 2) (a.eb 2)
        ∗ own c (wbSlab 3) (a.eb 3)
        ∗ holds (F := F) c (outSlot 2))
      ⊢ iprop((iprop(own c (wbSlab 2) (a.eb 2)
        ∗ own c (wbSlab 3) (a.eb 3)
        ∗ own c (outSlot 2) (a.send c 2)) -∗ Q ⟨⟩) -∗ runs c (k0_part17 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) w1 (a.xp2 c) (a.ip2 c) (a.r1 c) (a.r2 c) Given.one Given.zero) Q) := by
  rw [k0_part17_eq_skeleton]; unfold k0_part17_skel
  simp only [semSignalWord, semWaitWord, Prog.lift, Prog.bind_op, Prog.bind_ret, Prog.pure_eq_ret, wp_deviceId]
  dsimp only [Given.send, Given.send2]
  iintro ⟨B2, B3, Hs⟩ Hk
  iapply (load_own (M := wbM) (r := slab 2) (hr := fun _ => rfl)) $$ B2; iintro B2
  iapply (load_own (M := wbM) (r := slab 3) (hr := fun _ => rfl)) $$ B3; iintro B3
  iapply (load_any (M := outM) (r := slot 2) (hr := fun _ => rfl)) $$ Hs; iintro %_ Hs
  iapply (store_own (M := outM) (r := slot 2) (hr := fun _ => rfl)) $$ Hs; iintro Hs
  iapply runs_ret
  iapply Hk
  isplitl [B2]; · iexact B2
  isplitl [B3]; · iexact B3
  iexact Hs

end Cert.Routed

end
-- ==== Proof.Last.lean ====
/-
# The own chunk, and the blocks received
-/
module

public import proofs.«01_k».proof.Proof.Far

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)
variable {c : Dev nD} (a : Given F)

/-- The last block goes; the own chunk's rows are gathered. -/
theorem part18_run {Q : _ → sProp 𝕄} :
    iprop(records m ρ K
        ∗ owing c (O₅ c)
        ∗ own c (outSlot 2) (sent m ρ c 2)
        ∗ (holds (F := F) (peer c 2) (inSlot 0) ∗ dutyTok ER (sendCell c 2) 0 0 ∗ dutyTok ER (recvCell (peer c 2) 0) 0 0)
        ∗ own c iM a.i
        ∗ own c xsM a.xs
        ∗ own c ibM a.ib)
      ⊢ iprop((iprop(owing c 0
        ∗ cred (tallyAt (sendCell c 2) () N)
        ∗ own c iM a.i
        ∗ own c xsM a.xs
        ∗ own c ibM a.ib) -∗ Q ⟨a.m3 c, a.xp3 c, a.ip3 c, k0_pay39, a.h3 c, Given.one⟩) -∗ runs c (k0_part18 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) Given.tri Given.io) Q) := by
  rw [k0_part18_eq_skeleton]; unfold k0_part18_skel
  simp only [semSignalWord, semWaitWord, Prog.lift, Prog.bind_op, Prog.bind_ret, Prog.pure_eq_ret, wp_deviceId]
  dsimp only [Given.m3, Given.xp3, Given.ip3, Given.h3]
  iintro ⟨#HR, HO, Hs, ⟨HL, HT, HT'⟩, Hi, Hxs, Hib⟩ Hk
  iapply (send_block m ρ K 2 (dev6_eq c) 0) $$ [HO Hs HL HT HT']
  · isplitr; · iexact HR
    isplitl [HO]; · iexact HO
    isplitl [Hs]; · iexact Hs
    isplitl [HL]; · iexact HL
    isplitl [HT]; · iexact HT
    iexact HT'
  iintro ⟨HO, HC⟩
  iapply (load_named (M := iM) (r := ownI c) (a.ownIdx c) rfl) $$ Hi; iintro Hi
  iapply (load_named (M := xsM) (r := ownX c) (a.ownXs c) rfl) $$ Hxs; iintro Hxs
  iapply (load_named (M := ibM) (r := ownI c) (a.ownIb c) rfl) $$ Hib; iintro Hib
  iapply runs_ret
  iapply Hk
  isplitl [HO]; · iexact HO
  isplitl [HC]; · iexact HC
  isplitl [Hi]; · iexact Hi
  isplitl [Hxs]; · iexact Hxs
  iexact Hib

/-- The own chunk's products with the first three experts. -/
theorem part19_run {Q : _ → sProp 𝕄} :
    iprop(own c (wbSlab 0) (a.eb 0)
        ∗ own c (wbSlab 1) (a.eb 1)
        ∗ own c (wbSlab 2) (a.eb 2))
      ⊢ iprop((iprop(own c (wbSlab 0) (a.eb 0)
        ∗ own c (wbSlab 1) (a.eb 1)
        ∗ own c (wbSlab 2) (a.eb 2)) -∗ Q ⟨a.t1 c, a.t2 c⟩) -∗ runs c (k0_part19 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (me c) (a.xp3 c) (a.ip3 c) k0_pay39 (a.h3 c) Given.one) Q) := by
  rw [k0_part19_eq_skeleton]; unfold k0_part19_skel
  simp only [semSignalWord, semWaitWord, Prog.lift, Prog.bind_op, Prog.bind_ret, Prog.pure_eq_ret, wp_deviceId]
  dsimp only [Given.t1, Given.t2]
  iintro ⟨B0, B1, B2⟩ Hk
  iapply (load_own (M := wbM) (r := slab 0) (hr := fun _ => rfl)) $$ B0; iintro B0
  iapply (load_own (M := wbM) (r := slab 1) (hr := fun _ => rfl)) $$ B1; iintro B1
  iapply (load_own (M := wbM) (r := slab 2) (hr := fun _ => rfl)) $$ B2; iintro B2
  iapply runs_ret
  iapply Hk
  isplitl [B0]; · iexact B0
  isplitl [B1]; · iexact B1
  iexact B2

/-- The fourth expert, put back in row order, and the shared expert. -/
theorem part20_run (w1 w2 : BitVec 32) {Q : _ → sProp 𝕄} :
    iprop(records m ρ K
        ∗ owing c 0
        ∗ own c (wbSlab 3) (a.eb 3)
        ∗ flyingS c a
        ∗ own c xM a.x)
      ⊢ iprop((iprop(owing c 0
        ∗ own c (wbSlab 3) (a.eb 3)
        ∗ free c 4
        ∗ own c svM a.s
        ∗ own c sM a.s
        ∗ own c xM a.x) -∗ Q (a.acc c)) -∗ runs c (k0_part20 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 c (me c) w1 w2 (a.m3 c) (a.xp3 c) (a.ip3 c) (a.t1 c) (a.t2 c)) Q) := by
  rw [k0_part20_eq_skeleton]; unfold k0_part20_skel
  simp only [semSignalWord, semWaitWord, Prog.lift, Prog.bind_op, Prog.bind_ret, Prog.pure_eq_ret, wp_deviceId]
  dsimp only [Given.acc]
  iintro ⟨#HR, HO, B3, FS, Hx⟩ Hk
  iapply (load_own (M := wbM) (r := slab 3) (hr := fun _ => rfl)) $$ B3; iintro B3
  iapply (await_copy m ρ K 4 (rfl : svM.view.dmaCredit = NS) 0 (Above.zero 0)) $$ [HO FS]
  · isplitr; · iexact HR
    isplitl [HO]; · iexact HO
    iexact FS
  iintro ⟨HO, HZ, HV, HS⟩
  iapply (load_named (M := xM) (r := ownX c) (a.ownRows c) rfl) $$ Hx; iintro Hx
  iapply (load_full (M := svM) off0) $$ HV; iintro HV
  iapply runs_ret
  iapply Hk
  isplitl [HO]; · iexact HO
  isplitl [B3]; · iexact B3
  isplitl [HZ]; · iexact HZ
  isplitl [HV]; · iexact HV
  isplitl [HS]; · iexact HS
  iexact Hx

/-- The three blocks received are put back in row order and added. -/
theorem part21_run (w1 w2 : BitVec 32) (u : FVec F S256x1024 .f32) {Q : _ → sProp 𝕄} :
    iprop(records m ρ K
        ∗ owing c 0
        ∗ (cred (tallyAt (recvCell c 0) () N) ∗ atPos ER (recvCell c 0) 0 ∅ 0)
        ∗ (cred (tallyAt (recvCell c 1) () N) ∗ atPos ER (recvCell c 1) 0 ∅ 0)
        ∗ (cred (tallyAt (recvCell c 2) () N) ∗ atPos ER (recvCell c 2) 0 ∅ 0))
      ⊢ iprop((iprop(owing c 0
        ∗ (semVal (recvCell c 0) 0 ∗ own c (inSlot 0) (got m ρ c 0))
        ∗ (semVal (recvCell c 1) 0 ∗ own c (inSlot 1) (got m ρ c 1))
        ∗ (semVal (recvCell c 2) 0 ∗ own c (inSlot 2) (got m ρ c 2))) -∗ Q ⟨k0_pay44 (a.back1 c) (a.back2 c) u (got m ρ c 1) (got m ρ c 2), got m ρ c 0⟩) -∗ runs c (k0_part21 xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9 (a.back1 c) (a.back2 c) w1 w2 u) Q) := by
  rw [k0_part21_eq_skeleton]; unfold k0_part21_skel
  simp only [semSignalWord, semWaitWord, Prog.lift, Prog.bind_op, Prog.bind_ret, Prog.pure_eq_ret, wp_deviceId]
  iintro ⟨#HR, HO, ⟨C0, A0⟩, ⟨C1, A1⟩, ⟨C2, A2⟩⟩ Hk
  iapply (await_got m ρ K 1 (slot_credit 1)) $$ [HO C1 A1]
  · isplitr; · iexact HR
    isplitl [HO]; · iexact HO
    isplitl [C1]; · iexact C1
    iexact A1
  iintro ⟨HO, Z1, G1⟩
  iapply (load_own (M := inM) (r := slot 1) (hr := fun _ => rfl)) $$ G1; iintro G1
  iapply (await_got m ρ K 2 (slot_credit 2)) $$ [HO C2 A2]
  · isplitr; · iexact HR
    isplitl [HO]; · iexact HO
    isplitl [C2]; · iexact C2
    iexact A2
  iintro ⟨HO, Z2, G2⟩
  iapply (load_own (M := inM) (r := slot 2) (hr := fun _ => rfl)) $$ G2; iintro G2
  iapply (await_got m ρ K 0 (slot_credit 0)) $$ [HO C0 A0]
  · isplitr; · iexact HR
    isplitl [HO]; · iexact HO
    isplitl [C0]; · iexact C0
    iexact A0
  iintro ⟨HO, Z0, G0⟩
  iapply (load_own (M := inM) (r := slot 0) (hr := fun _ => rfl)) $$ G0; iintro G0
  iapply runs_ret
  iapply Hk
  isplitl [HO]; · iexact HO
  isplitl [Z0 G0]
  · isplitl [Z0]; · iexact Z0
    iexact G0
  isplitl [Z1 G1]
  · isplitl [Z1]; · iexact Z1
    iexact G1
  isplitl [Z2]; · iexact Z2
  iexact G2

end Cert.Routed

end
-- ==== Proof.Whole.lean ====
/-
# The body's run

The parts in program order. A device starts with its arguments, the landing slabs, what its barrier and its transfers
need, and what it owes; it ends owing nothing, its arguments unchanged, its semaphores at zero, and its result written.
-/
module

public import proofs.«01_k».proof.Proof.Last

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)
variable {c : Dev nD} (a : Given F)

theorem block_credit (k : Fin 3) : ((outSlot k).squeeze S96x1024 squeezes_S1x96x1024_S96x1024).view.dmaCredit = N := rfl

theorem runs_bind {α β : Type} {c : Dev nD} (p : Prog (TpuEff nD τ sig (Elt F) Λ₀ .tc) α) (k : α → Prog (TpuEff nD τ sig (Elt F) Λ₀ .tc) β) (Q : β → sProp 𝕄) :
    runs c p (fun x => runs c (k x) Q) ⊢ runs c (p >>= k) Q :=
  Entails.of_eq (wp_bind _ _ _ p k Q).symm

/-- One expert's slabs: the weights, where they land, that copy's semaphore, and where their rounding is stored. -/
abbrev expertAt (c : Dev nD) (a : Given F) (e : Fin 4) : sProp 𝕄 :=
  iprop(own c (wSlab e) (a.w e) ∗ holds (F := F) c (wvSlab e) ∗ free c e.castSucc ∗ holds (F := F) c (wbSlab e))
/-- The shared expert: the same. -/
abbrev sharedAt (c : Dev nD) (a : Given F) : sProp 𝕄 :=
  iprop(own c sM a.s ∗ holds (F := F) c svM ∗ free c 4)
/-- What the block sent `k + 1` positions on, and the block received in slot `k`, need. -/
abbrev blockIn (c : Dev nD) (k : Fin 3) : sProp 𝕄 :=
  iprop(holds (F := F) c (outSlot k) ∗ holds (F := F) c (inSlot k) ∗ dutyTok ER (barCell (peer c k)) 0 k ∗ dutyTok ER (sendCell c k) 0 0
    ∗ dutyTok ER (recvCell (peer c k) k.rev) 0 0 ∗ cred (tallyAt (recvCell c k) () N) ∗ atPos ER (recvCell c k) 0 ∅ 0 ∗ atPos ER (sendCell c k) 0 ∅ 0)
/-- What they leave. -/
abbrev blockOut (c : Dev nD) (k : Fin 3) : sProp 𝕄 :=
  iprop(holds (F := F) c (outSlot k) ∗ holds (F := F) c (inSlot k) ∗ semVal (recvCell c k) 0 ∗ semVal (sendCell c k) 0)

/-- What the body starts with. -/
def bodyIn (c : Dev nD) (a : Given F) : sProp 𝕄 :=
  iprop(records m ρ K ∗ owing c (O₀ c) ∗ (expertAt c a 0 ∗ expertAt c a 1 ∗ expertAt c a 2 ∗ expertAt c a 3) ∗ sharedAt c a
    ∗ (blockIn (F := F) c 0 ∗ blockIn (F := F) c 1 ∗ blockIn (F := F) c 2) ∗ (cred (tallyAt (barCell c) () 3) ∗ atPos ER (barCell c) 0 ∅ 0)
    ∗ (own c xM a.x ∗ own c rM a.r ∗ own c iM a.i) ∗ holds (F := F) c xsM ∗ holds (F := F) c ibM ∗ holds (F := F) c oM)
/-- What it ends with, the result being `y`. -/
def bodyOut (c : Dev nD) (a : Given F) (y : Vec F S256x1024 .f32) : sProp 𝕄 :=
  iprop(owing c 0 ∗ (expertAt c a 0 ∗ expertAt c a 1 ∗ expertAt c a 2 ∗ expertAt c a 3) ∗ sharedAt c a
    ∗ (blockOut (F := F) c 0 ∗ blockOut (F := F) c 1 ∗ blockOut (F := F) c 2) ∗ semVal (barCell c) 0
    ∗ (own c xM a.x ∗ own c rM a.r ∗ own c iM a.i) ∗ holds (F := F) c xsM ∗ holds (F := F) c ibM ∗ own c oM y)

set_option maxHeartbeats 1600000 in
theorem body_run (hs : ∀ k, a.send c k = sent m ρ c k) {Q : _ → sProp 𝕄} :
    bodyIn m ρ K c a ⊢ iprop((bodyOut (F := F) c a (a.out c (got m ρ c)) -∗ Q ⟨⟩) -∗ runs c (cc0_body xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9) Q) := by
  rw [cc0_body_eq_skeleton]; unfold cc0_body_skel
  simp only [Prog.lift, Prog.bind_op, Prog.bind_ret, Prog.pure_eq_ret]
  unfold bodyIn bodyOut Given.out
  iintro ⟨#HR, HO, ⟨⟨W0, V0, Z0, B0⟩, ⟨W1, V1, Z1, B1⟩, ⟨W2, V2, Z2, B2⟩, ⟨W3, V3, Z3, B3⟩⟩, ⟨HS, HV, HZ⟩, ⟨⟨S0, I0, T0, TS0, TR0, C0, A0, E0⟩, ⟨S1, I1, T1, TS1, TR1, C1, A1, E1⟩, ⟨S2, I2, T2, TS2, TR2, C2, A2, E2⟩⟩, ⟨CB, AB⟩, ⟨Hx, Hr, Hi⟩, Hxs, Hib, Ho⟩ Hk
  iapply runs_bind
  rw [k0_part22_eq_skeleton]; unfold k0_part22_skel
  simp only [Prog.lift, Prog.bind_op, Prog.bind_ret, Prog.pure_eq_ret]
  iapply runs_bind
  iapply (part1_run a) $$ [W0 V0 Z0 W1 V1 Z1 W2 V2 Z2]
  · isplitl [W0 V0 Z0]
    · isplitl [W0]; · iexact W0
      isplitl [V0]; · iexact V0
      iexact Z0
    isplitl [W1 V1 Z1]
    · isplitl [W1]; · iexact W1
      isplitl [V1]; · iexact V1
      iexact Z1
    isplitl [W2]; · iexact W2
    isplitl [V2]; · iexact V2
    iexact Z2
  iintro ⟨F0, F1, F2⟩
  dsimp only
  iapply runs_bind
  iapply (part2_run m ρ K a (me c)) $$ [W3 V3 Z3 HS HV HZ HO T0 I0 T1 I1]
  · isplitr; · iexact HR
    isplitl [W3 V3 Z3]
    · isplitl [W3]; · iexact W3
      isplitl [V3]; · iexact V3
      iexact Z3
    isplitl [HS HV HZ]
    · isplitl [HS]; · iexact HS
      isplitl [HV]; · iexact HV
      iexact HZ
    isplitl [HO]; · iexact HO
    isplitl [T0 I0]
    · isplitl [T0]; · iexact T0
      iexact I0
    isplitl [T1]; · iexact T1
    iexact I1
  iintro %u1 %u2 %u3 ⟨F3, FS, HO⟩
  dsimp only
  iapply runs_bind
  iapply (part3_run m ρ K a _ _ _) $$ [HO T2 I2 CB AB Hx Hr Hi]
  · isplitr; · iexact HR
    isplitl [HO]; · iexact HO
    isplitl [T2 I2]
    · isplitl [T2]; · iexact T2
      iexact I2
    isplitl [CB]; · iexact CB
    isplitl [AB]; · iexact AB
    isplitl [Hx]; · iexact Hx
    isplitl [Hr]; · iexact Hr
    iexact Hi
  iintro ⟨HO, ZB, ⟨L0, L1, L2⟩, Hx, Hr, Hi⟩
  dsimp only
  iapply runs_bind
  iapply (part4_run a) $$ [Hxs Hib Hi]
  · isplitl [Hxs]; · iexact Hxs
    isplitl [Hib]; · iexact Hib
    iexact Hi
  iintro %u4 ⟨Hxs, Hib, Hi⟩
  dsimp only
  iapply runs_bind
  iapply (part5_run a _) $$ [Hi]
  · iexact Hi
  iintro Hi
  dsimp only
  iapply runs_bind
  iapply (part6_run a _) $$ [Hi]
  · iexact Hi
  iintro %u5 Hi
  dsimp only
  iapply runs_bind
  iapply (part7_run a _ _) $$ [Hi Hxs Hib]
  · isplitl [Hi]; · iexact Hi
    isplitl [Hxs]; · iexact Hxs
    iexact Hib
  iintro %u6 ⟨Hi, Hxs, Hib⟩
  dsimp only
  iapply runs_bind
  iapply (part8_run m ρ K a) $$ [HO F0 B0]
  · isplitr; · iexact HR
    isplitl [HO]; · iexact HO
    isplitl [F0]; · iexact F0
    iexact B0
  iintro ⟨HO, Z0, V0, W0, B0⟩
  dsimp only
  iapply runs_bind
  iapply (part9_run m ρ K a) $$ [HO F1 F2 B1]
  · isplitr; · iexact HR
    isplitl [HO]; · iexact HO
    isplitl [F1]; · iexact F1
    isplitl [F2]; · iexact F2
    iexact B1
  iintro ⟨HO, Z1, V1, W1, Z2, V2, W2, B1⟩
  iapply runs_bind
  iapply (part10_run m ρ K a) $$ [HO V2 F3 B2 B3]
  · isplitr; · iexact HR
    isplitl [HO]; · iexact HO
    isplitl [V2]; · iexact V2
    isplitl [F3]; · iexact F3
    isplitl [B2]; · iexact B2
    iexact B3
  iintro ⟨HO, V2, Z3, V3, W3, B2, B3⟩
  iapply runs_bind
  iapply (part11_run m ρ K a (hs 1) _) $$ [HO B3 S1 L1 TS1 TR1]
  · isplitr; · iexact HR
    isplitl [HO]; · iexact HO
    isplitl [B3]; · iexact B3
    isplitl [S1]; · iexact S1
    isplitl [L1]; · iexact L1
    isplitl [TS1]; · iexact TS1
    iexact TR1
  iintro %u7 %u8 %u9 %u10 ⟨HO, B3, D1⟩
  dsimp only
  iapply runs_bind
  iapply (part12_run a _ _ _ _) $$ [Hi Hxs Hib]
  · isplitl [Hi]; · iexact Hi
    isplitl [Hxs]; · iexact Hxs
    iexact Hib
  iintro %u11 ⟨Hi, Hxs, Hib⟩
  dsimp only
  iapply runs_bind
  iapply (part13_run a) $$ [B0 B1]
  · isplitl [B0]; · iexact B0
    iexact B1
  iintro ⟨B0, B1⟩
  dsimp only
  iapply runs_bind
  iapply (part14_run m ρ K a (hs 0) _) $$ [HO B2 B3 S0 L0 TS0 TR0]
  · isplitr; · iexact HR
    isplitl [HO]; · iexact HO
    isplitl [B2]; · iexact B2
    isplitl [B3]; · iexact B3
    isplitl [S0]; · iexact S0
    isplitl [L0]; · iexact L0
    isplitl [TS0]; · iexact TS0
    iexact TR0
  iintro ⟨HO, B2, B3, D0⟩
  iapply runs_bind
  iapply (part15_run a _) $$ [Hi Hxs]
  · isplitl [Hi]; · iexact Hi
    iexact Hxs
  iintro %u12 ⟨Hi, Hxs⟩
  dsimp only
  iapply runs_bind
  iapply (part16_run a) $$ [Hib B0 B1]
  · isplitl [Hib]; · iexact Hib
    isplitl [B0]; · iexact B0
    iexact B1
  iintro ⟨Hib, B0, B1⟩
  dsimp only
  iapply runs_bind
  iapply (part17_run a _) $$ [B2 B3 S2]
  · isplitl [B2]; · iexact B2
    isplitl [B3]; · iexact B3
    iexact S2
  iintro ⟨B2, B3, S2⟩
  rw [hs 2]
  iapply runs_bind
  iapply (part18_run m ρ K a) $$ [HO S2 L2 TS2 TR2 Hi Hxs Hib]
  · isplitr; · iexact HR
    isplitl [HO]; · iexact HO
    isplitl [S2]; · iexact S2
    isplitl [L2 TS2 TR2]
    · isplitl [L2]; · iexact L2
      isplitl [TS2]; · iexact TS2
      iexact TR2
    isplitl [Hi]; · iexact Hi
    isplitl [Hxs]; · iexact Hxs
    iexact Hib
  iintro ⟨HO, D2, Hi, Hxs, Hib⟩
  dsimp only
  iapply runs_bind
  iapply (part19_run a) $$ [B0 B1 B2]
  · isplitl [B0]; · iexact B0
    isplitl [B1]; · iexact B1
    iexact B2
  iintro ⟨B0, B1, B2⟩
  dsimp only
  iapply runs_bind
  iapply (part20_run m ρ K a _ _) $$ [HO B3 FS Hx]
  · isplitr; · iexact HR
    isplitl [HO]; · iexact HO
    isplitl [B3]; · iexact B3
    isplitl [FS]; · iexact FS
    iexact Hx
  iintro ⟨HO, B3, HZ, HV, HS, Hx⟩
  iapply runs_bind
  iapply (part21_run m ρ K a _ _ _) $$ [HO C0 A0 C1 A1 C2 A2]
  · isplitr; · iexact HR
    isplitl [HO]; · iexact HO
    isplitl [C0 A0]
    · isplitl [C0]; · iexact C0
      iexact A0
    isplitl [C1 A1]
    · isplitl [C1]; · iexact C1
      iexact A1
    isplitl [C2]; · iexact C2
    iexact A2
  iintro ⟨HO, ⟨Y0, I0⟩, ⟨Y1, I1⟩, ⟨Y2, I2⟩⟩
  dsimp only
  icases Ho with ⟨%X, Ho⟩
  iapply (load_full (M := oM) off0) $$ Ho; iintro Ho
  ihave Ho := (holds_intro oM X) $$ Ho
  iapply (store_full (M := oM) off0) $$ Ho; iintro Ho
  iapply (await_sent m ρ K 1 (block_credit 1)) $$ [HO D1 E1]
  · isplitr; · iexact HR
    isplitl [HO]; · iexact HO
    isplitl [D1]; · iexact D1
    iexact E1
  iintro ⟨HO, X1, S1⟩
  iapply runs_ret
  iapply (await_sent m ρ K 0 (block_credit 0)) $$ [HO D0 E0]
  · isplitr; · iexact HR
    isplitl [HO]; · iexact HO
    isplitl [D0]; · iexact D0
    iexact E0
  iintro ⟨HO, X0, S0⟩
  iapply (await_sent m ρ K 2 (block_credit 2)) $$ [HO D2 E2]
  · isplitr; · iexact HR
    isplitl [HO]; · iexact HO
    isplitl [D2]; · iexact D2
    iexact E2
  iintro ⟨HO, X2, S2⟩
  iapply runs_ret
  iapply Hk
  isplitl [HO]; · iexact HO
  isplitl [W0 V0 Z0 B0 W1 V1 Z1 B1 W2 V2 Z2 B2 W3 V3 Z3 B3]
  · isplitl [W0 V0 Z0 B0]
    · isplitl [W0]; · iexact W0
      isplitl [V0]; · iapply (holds_intro _ _) $$ V0
      isplitl [Z0]; · iexact Z0
      iapply (holds_intro _ _) $$ B0
    isplitl [W1 V1 Z1 B1]
    · isplitl [W1]; · iexact W1
      isplitl [V1]; · iapply (holds_intro _ _) $$ V1
      isplitl [Z1]; · iexact Z1
      iapply (holds_intro _ _) $$ B1
    isplitl [W2 V2 Z2 B2]
    · isplitl [W2]; · iexact W2
      isplitl [V2]; · iapply (holds_intro _ _) $$ V2
      isplitl [Z2]; · iexact Z2
      iapply (holds_intro _ _) $$ B2
    isplitl [W3]; · iexact W3
    isplitl [V3]; · iapply (holds_intro _ _) $$ V3
    isplitl [Z3]; · iexact Z3
    iapply (holds_intro _ _) $$ B3
  isplitl [HS HV HZ]
  · isplitl [HS]; · iexact HS
    isplitl [HV]; · iapply (holds_intro _ _) $$ HV
    iexact HZ
  isplitl [S0 I0 Y0 X0 S1 I1 Y1 X1 S2 I2 Y2 X2]
  · isplitl [S0 I0 Y0 X0]
    · isplitl [S0]; · iapply (holds_intro _ _) $$ S0
      isplitl [I0]; · iapply (holds_intro _ _) $$ I0
      isplitl [Y0]; · iexact Y0
      iexact X0
    isplitl [S1 I1 Y1 X1]
    · isplitl [S1]; · iapply (holds_intro _ _) $$ S1
      isplitl [I1]; · iapply (holds_intro _ _) $$ I1
      isplitl [Y1]; · iexact Y1
      iexact X1
    isplitl [S2]; · iapply (holds_intro _ _) $$ S2
    isplitl [I2]; · iapply (holds_intro _ _) $$ I2
    isplitl [Y2]; · iexact Y2
    iexact X2
  isplitl [ZB]; · iexact ZB
  isplitl [Hx Hr Hi]
  · isplitl [Hx]; · iexact Hx
    isplitl [Hr]; · iexact Hr
    iexact Hi
  isplitl [Hxs]; · iapply (holds_intro _ _) $$ Hxs
  isplitl [Hib]; · iapply (holds_intro _ _) $$ Hib
  iexact Ho

end Cert.Routed

end
-- ==== Proof.Dealing.lean ====
/-
# What the launch deals

Every device gets its five copy semaphores, the invariants of all exchange cells, its positions at its own seven cells,
and the tokens of the duties that it pays: a unit to each other device's barrier, its blocks' sending, and their arrival.
-/
module

public import proofs.«01_k».proof.Proof.Whole

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the blocks and the roles -/

omit [FloatOps F] in
theorem sep3 (Φ : Fin 3 → sProp 𝕄) : bigSep Finset.univ Φ = iprop(Φ 0 ∗ Φ 1 ∗ Φ 2) := bigSep_univ_eq_bigSepL [0, 1, 2] (by decide) (by decide) Φ
omit [FloatOps F] in
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem sep5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem sepRole (Φ : Role → sProp 𝕄) : bigSep Finset.univ Φ = iprop(Φ bar ∗ Φ (snd 0) ∗ Φ (snd 1) ∗ Φ (snd 2) ∗ Φ (rcv 0) ∗ Φ (rcv 1) ∗ Φ (rcv 2)) :=
  bigSep_univ_eq_bigSepL roles (by ext x; simpa using roles_univ x) roles_nodup Φ

/-! ## The cells and the tokens -/

theorem kcell_injective : Function.Injective (kcell : Dev nD × Role → GSem nD τ sig) := by
  rintro ⟨c, x⟩ ⟨c', x'⟩ h
  have h₁ : c = c' := congrArg (fun g : GSem nD τ sig => g.1.1) h
  have h₂ : csem x = csem x' := congrArg Prod.snd h
  have h₃ : some x = some x' := by rw [← role_csem x, ← role_csem x', h₂]
  rw [h₁, Option.some.inj h₃]

def xCells : Finset (GSem nD τ sig) := Finset.univ.map ⟨kcell, kcell_injective⟩

/-- Each device's own cells' duties, by block: the barrier's duty, the send cell's, the receive cell's. -/
abbrev dutyOf (x : Dev nD × Fin 3 × Fin 3) : GSem nD τ sig × ℕ × Fin 3 := match x.2.2 with
  | 0 => (kcell (x.1, bar), 0, x.2.1)
  | 1 => (kcell (x.1, snd x.2.1), 0, 0)
  | 2 => (kcell (x.1, rcv x.2.1), 0, 0)

theorem dutyOf_injective : Function.Injective dutyOf := by
  have key : ∀ (c c' : Dev nD) (r r' : Role) (d d' : Fin 3), ((kcell (c, r), 0, d) : GSem nD τ sig × ℕ × Fin 3) = (kcell (c', r'), 0, d') → c = c' ∧ r = r' ∧ d = d' := by
    intro c c' r r' d d' h
    have h' := kcell_injective (congrArg Prod.fst h)
    exact ⟨congrArg Prod.fst h', congrArg Prod.snd h', congrArg (fun x : GSem nD τ sig × ℕ × Fin 3 => x.2.2) h⟩
  rintro ⟨c, k, j⟩ ⟨c', k', j'⟩ h
  fin_cases j <;> fin_cases j' <;> obtain ⟨h₁, h₂, h₃⟩ := key _ _ _ _ _ _ h <;> simp_all

def xToks : Finset (GSem nD τ sig × ℕ × Fin 3) := Finset.univ.map ⟨dutyOf, dutyOf_injective⟩

def u₀ : UU := (initOf (Pipeline.cells cfgs cellOf_inj) (Pipeline.launchToks cfgs cellOf_inj), (initOf xCells xToks, 1))

/-- The tokens of device `c`'s own cells, by block. -/
def ownToks (c : Dev nD) : sProp 𝕄 :=
  bigSep Finset.univ fun k : Fin 3 => iprop(dutyTok ER (barCell c) 0 k ∗ dutyTok ER (sendCell c k) 0 0 ∗ dutyTok ER (recvCell c k) 0 0)
/-- The tokens of the duties that device `c` pays, by block. -/
def payToks (c : Dev nD) : sProp 𝕄 :=
  bigSep Finset.univ fun k : Fin 3 => iprop(dutyTok ER (barCell (peer c k)) 0 k ∗ dutyTok ER (sendCell c k) 0 0 ∗ dutyTok ER (recvCell (peer c k) k.rev) 0 0)

/-- What the launch element deals device `c`. -/
def G (c : Dev nD) : sProp 𝕄 :=
  iprop((bigSep Finset.univ fun x : Role => roundState ER (Rd (F := F) m ρ) (kcell (c, x)) 0)
    ∗ (bigSep Finset.univ fun x : Role => atPos ER (kcell (c, x)) 0 ∅ 0) ∗ (bigSep Finset.univ fun x : Role => reached ER (kcell (c, x)) 0) ∗ ownToks c)

theorem fund : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun x : Role => Φ (kcell (c, x)) := by
    unfold xCells; rw [bigSep_map, bigSep_univ_prod]; rfl
  have hT : bigSep xToks (fun x => (dutyTok ER x.1 x.2.1 x.2.2 : sProp 𝕄)) = bigSep Finset.univ fun c : Dev nD => ownToks c := by
    unfold xToks; rw [bigSep_map, bigSep_univ_prod]
    refine bigSep_congr fun c _ => ?_
    unfold ownToks; rw [bigSep_univ_prod]
    exact bigSep_congr fun k _ => by rw [sep3]; rfl
  iintro H
  imod (Rounds.fund ER (Rd (F := F) m ρ) xCells xToks) $$ H with ⟨Hst, Hr, Hat, Htok⟩
  imodintro
  ihave Hst' := (Entails.of_eq (hX fun g => roundState ER (Rd (F := F) m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

/-- The kernel's own semaphores: the five copies', the three of the blocks sent, the three of the blocks received. -/
abbrev osem : Fin 5 ⊕ (Fin 3 ⊕ Fin 3) → SemLoc sig
  | .inl e => .dma (copyS e)
  | .inr (.inl k) => .dma (sendS k)
  | .inr (.inr k) => .dma (recvS k)

theorem ownSemFacts : Pipeline.OwnSemFacts cfg0.spec osem := by decide

/-- All eleven at zero. -/
def ownZero (c : Dev nD) : sProp 𝕄 :=
  iprop(free c 0 ∗ free c 1 ∗ free c 2 ∗ free c 3 ∗ free c 4 ∗ semVal (sendCell c 0) 0 ∗ semVal (sendCell c 1) 0 ∗ semVal (sendCell c 2) 0
    ∗ semVal (recvCell c 0) 0 ∗ semVal (recvCell c 1) 0 ∗ semVal (recvCell c 2) 0)

omit [FloatOps F] in
theorem ownSems0_eq (c : Dev nD) :
    (Pipeline.ownSems0 (Ix := Unit) (Name := ℕ) (U := UU) (Lvl := ℕ) (Val := Elt F) (τ := τ) osem c : sProp 𝕄) = ownZero c := by
  rw [Pipeline.ownSems0_eq_of_list c osem [.inl 0, .inl 1, .inl 2, .inl 3, .inl 4, .inr (.inl 0), .inr (.inl 1), .inr (.inl 2), .inr (.inr 0), .inr (.inr 1), .inr (.inr 2)]
    (by decide) (by decide)]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step -/

/-- Every cell's invariant, under the name the launch gave it, and that every cell is at round 0. -/
def cellRecords (K : Dev nD × Role → ℕ) : sProp 𝕄 :=
  bigSep Finset.univ fun ck : Dev nD × Role => iprop(cellInv ER (Rd (F := F) m ρ) (K ck) (kcell ck) ∗ reached ER (kcell ck) 0)

instance cellRecords_persistent (K : Dev nD × Role → ℕ) : BI.Persistent (cellRecords m ρ K) := by unfold cellRecords; infer_instance

/-- What device `c` keeps for itself. -/
def mine (c : Dev nD) : sProp 𝕄 :=
  iprop((bigSep Finset.univ fun e : Fin 5 => free (F := F) c e) ∗ (bigSep Finset.univ fun x : Role => atPos ER (kcell (c, x)) 0 ∅ 0) ∗ payToks c)

def G' (c : Dev nD) : sProp 𝕄 := iprop(∃ K, cellRecords m ρ K ∗ mine c)

/-- One device's semaphores become its cells' invariants; the copies' stay. -/
theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Role => iprop((∃ κ : ℕ, cellInv ER (Rd (F := F) m ρ) κ (kcell (c, x))) ∗ reached ER (kcell (c, x)) 0))
          ∗ (bigSep Finset.univ fun e : Fin 5 => free (F := F) c e) ∗ (bigSep Finset.univ fun x : Role => atPos ER (kcell (c, x)) 0 ∅ 0) ∗ ownToks c) := by
  rw [ownSems0_eq, unscopedSems0_eq, bigSep_sep']
  unfold G ownZero
  iintro ⟨⟨F0, F1, F2, F3, F4, S0, S1, S2, R0, R1, R2⟩, HB, Hst, Hat, Hr, Ht⟩
  imod (show iprop((bigSep Finset.univ fun x : Role => semVal (kcell (c, x)) 0) ∗ bigSep Finset.univ fun x : Role => roundState ER (Rd (F := F) m ρ) (kcell (c, x)) 0)
      ⊢ (|={Set.univ}=> bigSep Finset.univ fun x : Role => iprop(∃ κ : ℕ, cellInv ER (Rd (F := F) m ρ) κ (kcell (c, x))) : sProp 𝕄) from by
        rw [← bigSep_sep']
        exact (bigSep_mono fun x _ => (Rounds.body_intro ER (Rd (F := F) m ρ) (kcell (c, x))).trans inv_alloc).trans (bigSep_fupd _ _)) $$ [S0 S1 S2 R0 R1 R2 HB Hst] with HI
  · isplitl [S0 S1 S2 R0 R1 R2 HB]
    · rw [sepRole]
      isplitl [HB]; · iexact HB
      isplitl [S0]; · iexact S0
      isplitl [S1]; · iexact S1
      isplitl [S2]; · iexact S2
      isplitl [R0]; · iexact R0
      isplitl [R1]; · iexact R1
      iexact R2
    iexact Hst
  imodintro
  isplitl [HI Hr]
  · isplitl [HI]; · iexact HI
    iexact Hr
  isplitl [F0 F1 F2 F3 F4]
  · rw [sep5]
    isplitl [F0]; · iexact F0
    isplitl [F1]; · iexact F1
    isplitl [F2]; · iexact F2
    isplitl [F3]; · iexact F3
    iexact F4
  isplitl [Hat]; · iexact Hat
  iexact Ht

/-- From a device and a block to the block's peer, and back. -/
def stepTo : Dev nD × Fin 3 ≃ Dev nD × Fin 3 where
  toFun x := (peer x.1 x.2, x.2)
  invFun x := (peer x.1 x.2.rev, x.2)
  left_inv := by decide
  right_inv := by decide
def turnTo : Dev nD × Fin 3 ≃ Dev nD × Fin 3 where
  toFun x := (peer x.1 x.2, x.2.rev)
  invFun x := (peer x.1 x.2, x.2.rev)
  left_inv := by decide
  right_inv := by decide

omit [FloatOps F] in
/-- The tokens of all cells, dealt to who pays. -/
theorem toks_dealt : (bigSep Finset.univ fun c : Dev nD => (ownToks c : sProp 𝕄)) ⊢ bigSep Finset.univ fun c : Dev nD => payToks c := by
  unfold ownToks payToks
  rw [← bigSep_univ_prod (fun x : Dev nD × Fin 3 => iprop(dutyTok ER (barCell x.1) 0 x.2 ∗ dutyTok ER (sendCell x.1 x.2) 0 0 ∗ dutyTok ER (recvCell x.1 x.2) 0 0)),
    ← bigSep_univ_prod (fun x : Dev nD × Fin 3 => iprop(dutyTok ER (barCell (peer x.1 x.2)) 0 x.2 ∗ dutyTok ER (sendCell x.1 x.2) 0 0 ∗ dutyTok ER (recvCell (peer x.1 x.2) x.2.rev) 0 0)),
    bigSep_sep', bigSep_sep', bigSep_sep', bigSep_sep',
    bigSep_univ_equiv stepTo (fun x : Dev nD × Fin 3 => (dutyTok ER (barCell x.1) 0 x.2 : sProp 𝕄)),
    bigSep_univ_equiv turnTo (fun x : Dev nD × Fin 3 => (dutyTok ER (recvCell x.1 x.2) 0 0 : sProp 𝕄))]
  iintro H; iexact H

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem records_named :
    (bigSep Finset.univ fun ck : Dev nD × Role => iprop((∃ κ : ℕ, cellInv ER (Rd (F := F) m ρ) κ (kcell ck)) ∗ reached ER (kcell ck) 0) : sProp 𝕄)
      ⊢ iprop(∃ K, cellRecords m ρ K) := by
  have h : ∀ ck : Dev nD × Role, iprop((∃ κ : ℕ, cellInv ER (Rd (F := F) m ρ) κ (kcell ck)) ∗ reached ER (kcell ck) 0)
      ⊢ (iprop(∃ κ : ℕ, cellInv ER (Rd (F := F) m ρ) κ (kcell ck) ∗ reached ER (kcell ck) 0) : sProp 𝕄) := fun ck => by
    iintro ⟨⟨%κ, HI⟩, Hr⟩
    iexists κ
    isplitl [HI]; · iexact HI
    iexact Hr
  exact (bigSep_mono fun ck _ => h ck).trans
    (BI.bigSep_exists_pi Finset.univ (fun (ck : Dev nD × Role) (κ : ℕ) => (iprop(cellInv ER (Rd (F := F) m ρ) κ (kcell ck) ∗ reached ER (kcell ck) 0) : sProp 𝕄)))

theorem regroup :
    (bigSep Finset.univ fun c : Dev nD => iprop((bigSep Finset.univ fun x : Role => iprop((∃ κ : ℕ, cellInv ER (Rd (F := F) m ρ) κ (kcell (c, x))) ∗ reached ER (kcell (c, x)) 0))
          ∗ (bigSep Finset.univ fun e : Fin 5 => free (F := F) c e) ∗ (bigSep Finset.univ fun x : Role => atPos ER (kcell (c, x)) 0 ∅ 0) ∗ ownToks c) : sProp 𝕄)
      ⊢ bigSep Finset.univ (G' m ρ) := by
  rw [bigSep_sep', bigSep_sep', bigSep_sep',
    ← bigSep_univ_prod (fun ck : Dev nD × Role => iprop((∃ κ : ℕ, cellInv ER (Rd (F := F) m ρ) κ (kcell ck)) ∗ reached ER (kcell ck) 0))]
  iintro ⟨HI, Hf, Hat, Ht⟩
  ihave ⟨%K, #HR⟩ := (records_named m ρ) $$ HI
  ihave Ht := (toks_dealt (F := F)) $$ Ht
  have hG : ∀ c ∈ (Finset.univ : Finset (Dev nD)), iprop(cellRecords m ρ K ∗ mine (F := F) c) ⊢ G' m ρ c := fun c _ => by
    unfold G'
    iintro ⟨HR, H⟩
    iexists K
    isplitl [HR]; · iexact HR
    iexact H
  iapply (with_persistent hG)
  isplitr; · iexact HR
  unfold mine
  simp only [bigSep_sep']
  isplitl [Hf]; · iexact Hf
  isplitl [Hat]; · iexact Hat
  iexact Ht

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

/-! ## The credit dealt at launch -/

theorem debtR_at (d c : Dev nD) (k j : Fin 3) : debtR d k (recvCell c j) () = if d = peer c j ∧ k = j.rev then N else 0 := by
  rw [tallyAt_apply]
  have hd : ∀ (d c : Dev nD) (k j : Fin 3), Iff (c = peer d k ∧ j = k.rev) (d = peer c j ∧ k = j.rev) := by decide
  have h : Iff (recvCell c j = recvCell (peer d k) k.rev ∧ () = ()) (c = peer d k ∧ j = k.rev) := by
    refine ⟨fun ⟨h, _⟩ => ?_, fun ⟨h₁, h₂⟩ => ⟨by rw [← h₁, ← h₂], rfl⟩⟩
    have h' := kcell_injective (a₁ := (c, rcv j)) (a₂ := (peer d k, rcv k.rev)) h
    simpa using h'
  exact if_congr (h.trans (hd d c k j)) rfl rfl
theorem debtR_bar (d c : Dev nD) (k : Fin 3) : debtR d k (barCell c) () = 0 := by
  rw [tallyAt_apply]
  refine if_neg fun ⟨h, _⟩ => ?_
  have h' := kcell_injective (a₁ := (c, bar)) (a₂ := (peer d k, rcv k.rev)) h
  simp at h'
theorem debtB_at (d c : Dev nD) (k : Fin 3) : debtB d k (barCell c) () = if c = peer d k then 1 else 0 := by
  rw [tallyAt_apply]
  refine if_congr ⟨fun ⟨h, _⟩ => ?_, fun h => ⟨by rw [h], rfl⟩⟩ rfl rfl
  have h' := kcell_injective (a₁ := (c, bar)) (a₂ := (peer d k, bar)) h
  simpa using h'
theorem debtB_recv (d c : Dev nD) (k j : Fin 3) : debtB d k (recvCell c j) () = 0 := by
  rw [tallyAt_apply]
  refine if_neg fun ⟨h, _⟩ => ?_
  have h' := kcell_injective (a₁ := (c, rcv j)) (a₂ := (peer d k, bar)) h
  simp at h'

theorem O₀_at (d : Dev nD) (g : GSem nD τ sig) :
    O₀ d g () = debtR d 2 g () + debtR d 0 g () + debtR d 1 g () + debtB d 2 g () + debtB d 1 g () + debtB d 0 g () := by
  show (0 + debtR d 2 + debtR d 0 + debtR d 1 + debtB d 2 + debtB d 1 + debtB d 0 : CellTallies nD τ sig Unit) g () = _
  rw [Pi.add_apply, Finsupp.add_apply, Pi.add_apply, Finsupp.add_apply, Pi.add_apply, Finsupp.add_apply, Pi.add_apply, Finsupp.add_apply,
    Pi.add_apply, Finsupp.add_apply, Pi.add_apply, Finsupp.add_apply, Pi.zero_apply, Finsupp.zero_apply, Nat.zero_add]

theorem owed_recv (d c : Dev nD) (j : Fin 3) : O₀ d (recvCell c j) () = if d = peer c j then N else 0 := by
  rw [O₀_at, debtR_at, debtR_at, debtR_at, debtB_recv, debtB_recv, debtB_recv]
  by_cases h : d = peer c j
  · fin_cases j <;> simp [h]
  · simp [h]
theorem owed_bar (c : Dev nD) : ∑ d : Dev nD, O₀ d (barCell c) () = 3 := by
  rw [Finset.sum_congr rfl fun d _ => (O₀_at d (barCell c)).trans (by rw [debtR_bar, debtR_bar, debtR_bar, debtB_at, debtB_at, debtB_at])]
  revert c; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j) fun _ => N,
    if_pos (Finset.mem_univ _)]

/-- A device's credit at launch: three units of its barrier, and each block it receives. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

omit [FloatOps F] in
theorem creds_intro (c : Dev nD) : (Pipeline.launchCred O₀ c : sProp 𝕄) ⊢ creds c := by
  have hsub : (Finset.univ.map ⟨csem, fun x y h => Option.some.inj (by rw [← role_csem x, ← role_csem y, h])⟩ : Finset (SemLoc sig)) ⊆ Finset.univ := Finset.subset_univ _
  unfold Pipeline.launchCred creds
  rw [← launch_bar, ← launch_recv, ← launch_recv, ← launch_recv]
  refine (show _ ⊢ _ from bigSep_subset hsub).trans ?_
  rw [bigSep_map, sepRole]
  iintro ⟨H, -, -, -, H0, H1, H2⟩
  isplitl [H]; · iexact H
  isplitl [H0]; · iexact H0
  isplitl [H1]; · iexact H1
  iexact H2

end Cert.Routed

end
-- ==== Proof.Device.lean ====
/-
# One device's body, from what the launch gives it

The argument and scratch arrays are cut into slabs and slots for the body and joined again after it.
-/
module

public import proofs.«01_k».proof.Proof.Dealing
public import proofs.«01_k».proof.Proof.Gen.KernelIdeal.Points

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining -/

omit [FloatOps F] in
theorem cut_slabs {c : Dev nD} {n : ℕ} (b : Ref sig .tc) (R : Fin n → Rect b.ty.shape) (hr : ∀ e a, (R e).stride a = 1)
    (hd : ∀ e e', e ≠ e' → Disjoint (R e).set (R e').set) (hc : Finset.univ.biUnion (fun e => (R e).set) = Finset.univ) :
    (iprop(∃ f : Buf (Elt F) ((c : Thread nD τ).loc b), ((c : Thread nD τ).loc b) ↦{fullShare} f) : sProp 𝕄)
      ⊢ bigSep Finset.univ fun e => holds (F := F) c ((Memref.whole b).slice (R e) (hr e)) := by
  iintro ⟨%f, H⟩
  ihave H := (Entails.of_eq (own_slabs b R hr hd hc f)) $$ H
  have h : (bigSep Finset.univ fun e => own c ((Memref.whole b).slice (R e) (hr e)) (fun y => f ((R e).emb y)))
      ⊢ (bigSep Finset.univ fun e => holds (F := F) c ((Memref.whole b).slice (R e) (hr e)) : sProp 𝕄) := bigSep_mono fun e _ => holds_intro _ _
  iapply h; iexact H

/-- Some contents of a buffer. -/
def anyOf (b : Ref sig .tc) : b.ty.Contents (Elt F) := fun _ => Classical.choice inferInstance

/-- The expert weights and the shared expert's, as the launch left them. -/
def weights (c : Dev nD) : sProp 𝕄 :=
  iprop((((c : Thread nD τ).loc main_arg3) ↦{fullShare} (s₀ m ρ).mem ((c : Thread nD τ).loc main_arg3))
    ∗ (((c : Thread nD τ).loc main_arg4) ↦{fullShare} (s₀ m ρ).mem ((c : Thread nD τ).loc main_arg4)))

theorem weights_cut (c : Dev nD) : weights m ρ c
    = iprop((own c (wSlab 0) ((given m ρ c).w 0) ∗ own c (wSlab 1) ((given m ρ c).w 1) ∗ own c (wSlab 2) ((given m ρ c).w 2) ∗ own c (wSlab 3) ((given m ρ c).w 3))
      ∗ own c sM (given m ρ c).s) := by
  unfold weights
  rw [own_slabs main_arg3 slab (fun _ _ => rfl) slab_disjoint slab_cover, sep4]
  rw [show own c sM (given m ρ c).s = _ from own_whole main_arg4 _]
  rfl

/-! ## The region's data -/

/-- What device `c`'s body starts from: its share of the records, what it keeps, the credit of its own cells, its weights, and the levels. -/
def start (c : Dev nD) : sProp 𝕄 := iprop((∃ K, cellRecords m ρ K ∗ mine c) ∗ creds c ∗ weights m ρ c ∗ levAts L lv)

def Φ₀ (c : Dev nD) : sProp 𝕄 := iprop(start m ρ c ∗ Pipeline.scopedRest cfg0.spec c)
def Φ₁ (c : Dev nD) : sProp 𝕄 := iprop(weights m ρ c ∗ ownZero c ∗ semVal (barCell c) 0 ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (given m ρ c).x
    | ⟨1, _⟩ => (given m ρ c).r
    | ⟨2, _⟩ => (given m ρ c).i
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Into the body and out of it -/

theorem enter (c : Dev nD) : iprop(Φ₀ m ρ c ∗ owing c (O₀ c) ∗ (own c xM (given m ρ c).x ∗ own c rM (given m ρ c).r ∗ own c iM (given m ρ c).i) ∗ holds (F := F) c oM)
    ⊢ iprop(∃ K, bodyIn m ρ K c (given m ρ c)) := by
  unfold Φ₀ start mine creds payToks cellRecords
  rw [weights_cut, show (Pipeline.scopedRest cfg0.spec c : sProp 𝕄) = _ from scopedRest0_eq c, sep5, sepRole, sep3]
  iintro ⟨⟨⟨⟨%K, #HR, ⟨F0, F1, F2, F3, F4⟩, ⟨AB, E0, E1, E2, A0, A1, A2⟩, ⟨T0, TS0, TR0⟩, ⟨T1, TS1, TR1⟩, T2, TS2, TR2⟩, ⟨CB, C0, C1, C2⟩, ⟨⟨W0, W1, W2, W3⟩, HS⟩, #HL⟩, V, B, SV, Hxs, Hib, S, I⟩, HO, ⟨Hx, Hr, Hi⟩, Ho⟩
  ihave ⟨V0, V1, V2, V3⟩ := ((cut_slabs cc0_scratch0 slab (fun _ _ => rfl) slab_disjoint slab_cover).trans (Entails.of_eq (sep4 _))) $$ V
  ihave ⟨B0, B1, B2, B3⟩ := ((cut_slabs cc0_scratch1 slab (fun _ _ => rfl) slab_disjoint slab_cover).trans (Entails.of_eq (sep4 _))) $$ B
  ihave ⟨S0, S1, S2⟩ := ((cut_slabs cc0_scratch5 slot (fun _ _ => rfl) slot_disjoint slot_cover).trans (Entails.of_eq (sep3 _))) $$ S
  ihave ⟨I0, I1, I2⟩ := ((cut_slabs cc0_scratch6 slot (fun _ _ => rfl) slot_disjoint slot_cover).trans (Entails.of_eq (sep3 _))) $$ I
  ihave SV := (Entails.of_eq (holds_whole cc0_scratch2).symm) $$ SV
  ihave Hxs := (Entails.of_eq (holds_whole cc0_scratch3).symm) $$ Hxs
  ihave Hib := (Entails.of_eq (holds_whole cc0_scratch4).symm) $$ Hib
  iexists K
  unfold bodyIn records
  isplitr
  · isplitr; · iexact HR
    iexact HL
  isplitl [HO]; · iexact HO
  isplitl [W0 V0 F0 B0 W1 V1 F1 B1 W2 V2 F2 B2 W3 V3 F3 B3]
  · isplitl [W0 V0 F0 B0]
    · isplitl [W0]; · iexact W0
      isplitl [V0]; · iexact V0
      isplitl [F0]; · iexact F0
      iexact B0
    isplitl [W1 V1 F1 B1]
    · isplitl [W1]; · iexact W1
      isplitl [V1]; · iexact V1
      isplitl [F1]; · iexact F1
      iexact B1
    isplitl [W2 V2 F2 B2]
    · isplitl [W2]; · iexact W2
      isplitl [V2]; · iexact V2
      isplitl [F2]; · iexact F2
      iexact B2
    isplitl [W3]; · iexact W3
    isplitl [V3]; · iexact V3
    isplitl [F3]; · iexact F3
    iexact B3
  isplitl [HS SV F4]
  · isplitl [HS]; · iexact HS
    isplitl [SV]; · iexact SV
    iexact F4
  isplitl [S0 I0 T0 TS0 TR0 C0 A0 E0 S1 I1 T1 TS1 TR1 C1 A1 E1 S2 I2 T2 TS2 TR2 C2 A2 E2]
  · isplitl [S0 I0 T0 TS0 TR0 C0 A0 E0]
    · isplitl [S0]; · iexact S0
      isplitl [I0]; · iexact I0
      isplitl [T0]; · iexact T0
      isplitl [TS0]; · iexact TS0
      isplitl [TR0]; · iexact TR0
      isplitl [C0]; · iexact C0
      isplitl [A0]; · iexact A0
      iexact E0
    isplitl [S1 I1 T1 TS1 TR1 C1 A1 E1]
    · isplitl [S1]; · iexact S1
      isplitl [I1]; · iexact I1
      isplitl [T1]; · iexact T1
      isplitl [TS1]; · iexact TS1
      isplitl [TR1]; · iexact TR1
      isplitl [C1]; · iexact C1
      isplitl [A1]; · iexact A1
      iexact E1
    isplitl [S2]; · iexact S2
    isplitl [I2]; · iexact I2
    isplitl [T2]; · iexact T2
    isplitl [TS2]; · iexact TS2
    isplitl [TR2]; · iexact TR2
    isplitl [C2]; · iexact C2
    isplitl [A2]; · iexact A2
    iexact E2
  isplitl [CB AB]
  · isplitl [CB]; · iexact CB
    iexact AB
  isplitl [Hx Hr Hi]
  · isplitl [Hx]; · iexact Hx
    isplitl [Hr]; · iexact Hr
    iexact Hi
  isplitl [Hxs]; · iexact Hxs
  isplitl [Hib]; · iexact Hib
  iexact Ho

theorem leave (c : Dev nD) : bodyOut (F := F) c (given m ρ c) (outAt m ρ c)
    ⊢ iprop(Φ₁ m ρ c ∗ owing c 0 ∗ (own c xM (given m ρ c).x ∗ own c rM (given m ρ c).r ∗ own c iM (given m ρ c).i) ∗ own c oM (outAt m ρ c)) := by
  unfold Φ₁ bodyOut ownZero
  rw [weights_cut, show (Pipeline.scopedRest cfg0.spec c : sProp 𝕄) = _ from scopedRest0_eq c]
  iintro ⟨HO, ⟨⟨W0, V0, F0, B0⟩, ⟨W1, V1, F1, B1⟩, ⟨W2, V2, F2, B2⟩, W3, V3, F3, B3⟩, ⟨HS, SV, F4⟩, ⟨⟨S0, I0, A0, E0⟩, ⟨S1, I1, A1, E1⟩, S2, I2, A2, E2⟩, AB, Hxri, Hxs, Hib, Ho⟩
  ihave V := ((Entails.of_eq (sep4 fun e => holds (F := F) c (wvSlab e)).symm).trans (holds_slabs cc0_scratch0 slab (fun _ _ => rfl) slab_disjoint slab_cover (anyOf _))) $$ [V0 V1 V2 V3]
  · isplitl [V0]; · iexact V0
    isplitl [V1]; · iexact V1
    isplitl [V2]; · iexact V2
    iexact V3
  ihave B := ((Entails.of_eq (sep4 fun e => holds (F := F) c (wbSlab e)).symm).trans (holds_slabs cc0_scratch1 slab (fun _ _ => rfl) slab_disjoint slab_cover (anyOf _))) $$ [B0 B1 B2 B3]
  · isplitl [B0]; · iexact B0
    isplitl [B1]; · iexact B1
    isplitl [B2]; · iexact B2
    iexact B3
  ihave S := ((Entails.of_eq (sep3 fun e => holds (F := F) c (outSlot e)).symm).trans (holds_slabs cc0_scratch5 slot (fun _ _ => rfl) slot_disjoint slot_cover (anyOf _))) $$ [S0 S1 S2]
  · isplitl [S0]; · iexact S0
    isplitl [S1]; · iexact S1
    iexact S2
  ihave I := ((Entails.of_eq (sep3 fun e => holds (F := F) c (inSlot e)).symm).trans (holds_slabs cc0_scratch6 slot (fun _ _ => rfl) slot_disjoint slot_cover (anyOf _))) $$ [I0 I1 I2]
  · isplitl [I0]; · iexact I0
    isplitl [I1]; · iexact I1
    iexact I2
  ihave SV := (Entails.of_eq (holds_whole cc0_scratch2)) $$ SV
  ihave Hxs := (Entails.of_eq (holds_whole cc0_scratch3)) $$ Hxs
  ihave Hib := (Entails.of_eq (holds_whole cc0_scratch4)) $$ Hib
  isplitl [W0 W1 W2 W3 HS F0 F1 F2 F3 F4 E0 E1 E2 A0 A1 A2 AB V B SV Hxs Hib S I]
  · isplitl [W0 W1 W2 W3 HS]
    · isplitl [W0 W1 W2 W3]
      · isplitl [W0]; · iexact W0
        isplitl [W1]; · iexact W1
        isplitl [W2]; · iexact W2
        iexact W3
      iexact HS
    isplitl [F0 F1 F2 F3 F4 E0 E1 E2 A0 A1 A2]
    · isplitl [F0]; · iexact F0
      isplitl [F1]; · iexact F1
      isplitl [F2]; · iexact F2
      isplitl [F3]; · iexact F3
      isplitl [F4]; · iexact F4
      isplitl [E0]; · iexact E0
      isplitl [E1]; · iexact E1
      isplitl [E2]; · iexact E2
      isplitl [A0]; · iexact A0
      isplitl [A1]; · iexact A1
      iexact A2
    isplitl [AB]; · iexact AB
    isplitl [V]; · iexact V
    isplitl [B]; · iexact B
    isplitl [SV]; · iexact SV
    isplitl [Hxs]; · iexact Hxs
    isplitl [Hib]; · iexact Hib
    isplitl [S]; · iexact S
    iexact I
  isplitl [HO]; · iexact HO
  isplitl [Hxri]; · iexact Hxri
  iexact Ho

/-! ## The obligation -/

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄) = own c (Memref.whole b) X := rfl

theorem before_x (c : Dev nD) (t : Fin cfg0.N) (d) : (dats m ρ 0 c).before (0 : Fin 4) t d = (given m ρ c).x := by
  unfold Dat.before; rw [if_pos (fetch0_0 t), fin_N0 t]; rfl
theorem before_r (c : Dev nD) (t : Fin cfg0.N) (d) : (dats m ρ 0 c).before (1 : Fin 4) t d = (given m ρ c).r := by
  unfold Dat.before; rw [if_pos (fetch0_1 t), fin_N0 t]; rfl
theorem before_i (c : Dev nD) (t : Fin cfg0.N) (d) : (dats m ρ 0 c).before (2 : Fin 4) t d = (given m ρ c).i := by
  unfold Dat.before; rw [if_pos (fetch0_2 t), fin_N0 t]; rfl

def atEntry (c : Dev nD) : sProp 𝕄 :=
  iprop(Φ₀ m ρ c ∗ (dats m ρ 0 c).owesAt () t0_0.castSucc
    ∗ (∃ d, own c xM ((dats m ρ 0 c).before (0 : Fin 4) t0_0 d)) ∗ (∃ d, own c rM ((dats m ρ 0 c).before (1 : Fin 4) t0_0 d))
    ∗ (∃ d, own c iM ((dats m ρ 0 c).before (2 : Fin 4) t0_0 d)) ∗ (∃ d, own c oM ((dats m ρ 0 c).before (3 : Fin 4) t0_0 d)))
def atExit (c : Dev nD) : sProp 𝕄 :=
  iprop(Φ₁ m ρ c ∗ (dats m ρ 0 c).owesAt () t0_0.succ
    ∗ own c xM (given m ρ c).x ∗ own c rM (given m ρ c).r ∗ own c iM (given m ρ c).i ∗ own c oM (outAt m ρ c))

set_option maxRecDepth 4000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  show atEntry m ρ c ⊢ runs c (cc0_body xM (Memref.isWhole_whole _) rM (Memref.isWhole_whole _) iM (Memref.isWhole_whole _) wM (Memref.isWhole_whole _) sM (Memref.isWhole_whole _) oM (Memref.isWhole_whole _) wvM (Memref.isWhole_whole _) wbM (Memref.isWhole_whole _) svM (Memref.isWhole_whole _) xsM (Memref.isWhole_whole _) ibM (Memref.isWhole_whole _) outM (Memref.isWhole_whole _) inM (Memref.isWhole_whole _) cc0_scratch7 cc0_scratch8 cc0_scratch9) (fun _ => atExit m ρ c)
  unfold atEntry
  iintro ⟨HΦ, HO, ⟨%d0, Hx⟩, ⟨%d1, Hr⟩, ⟨%d2, Hi⟩, %d3, Ho⟩
  rw [before_x, before_r, before_i]
  unfold Dat.owesAt Pipeline.owesWithin
  icases HO with ⟨%W, -, HO⟩
  ihave ⟨%K, H⟩ := (enter m ρ c) $$ [HΦ HO Hx Hr Hi Ho]
  · isplitl [HΦ]; · iexact HΦ
    isplitl [HO]; · unfold owing; iexists W; iexact HO
    isplitl [Hx Hr Hi]
    · isplitl [Hx]; · iexact Hx
      isplitl [Hr]; · iexact Hr
      iexact Hi
    iexists _; iexact Ho
  iapply (body_run m ρ K (given m ρ c) (fun _ => rfl) (Q := fun _ => atExit m ρ c)) $$ H
  iintro H
  ihave ⟨HΦ, HO, ⟨Hx, Hr, Hi⟩, Ho⟩ := (show bodyOut (F := F) c (given m ρ c) ((given m ρ c).out c (got m ρ c)) ⊢ _ from leave m ρ c) $$ H
  unfold owing
  icases HO with ⟨%W', HO⟩
  unfold atExit Dat.owesAt Pipeline.owesWithin
  isplitl [HΦ]; · iexact HΦ
  isplitl [HO]
  · iexists W'
    isplitr; · ipureintro; exact fun _ _ => Or.inl trivial
    iexact HO
  isplitl [Hx]; · iexact Hx
  isplitl [Hr]; · iexact Hr
  isplitl [Hi]; · iexact Hi
  iexact Ho

end Cert.Routed

end
-- ==== Proof.Launched.lean ====
/-
# The run of the whole program

From any memory with all counters at zero, the four devices' bodies end: each result array is as the body leaves it, the
arguments are unchanged and all counters are at zero again.
-/
module

public import Idealize.ShloMosaic.Lib.Pipeline.CollectiveSegs
public import proofs.«01_k».proof.Proof.Device

@[expose] public section

noncomputable section

namespace Cert.Routed

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem u₀_parts (x : UR sig nD τ) (y : UB) : (ownU ((x, (y, 1)) : UU) : sProp 𝕄) ⊢ iprop(BI.own (EP x) ∗ BI.own (ER y)) :=
  BI.own_op_elim ((uEmb (nD := nD) (sig := sig) (Ix := Unit) (Val := Elt F) (Name := ℕ) (U := UU) (Lvl := ℕ)).toEmb.op_of_mem
    (Prod.mk_mem_op (URA.mem_op_one x) (URA.mem_one_op (y, (1 : Counters)))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show (Pipeline.unscopedRest cfg0.spec c (fun b => m ((c : Thread nD τ).loc b)) : sProp 𝕄) = _ from unscopedRest0_eq c _]
  iintro ⟨Hw, HL, HC, -, HG⟩
  ihave HC := (creds_intro (F := F) c) $$ HC
  imodintro
  unfold start G'
  isplitl
  · isplitl [HG]; · iexact HG
    isplitl [HC]; · iexact HC
    isplitl [Hw]; · unfold weights; iexact Hw
    iexact HL
  · iempintro

theorem region_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

/-- What the region leaves a device: its barrier's counter at zero, and its weights. -/
def left (c : Dev nD) : sProp 𝕄 := iprop(unscopedSems0 c ∗ weights m ρ c)

theorem region_out (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, ownSems0_eq]
  unfold Φ₁ left
  rw [unscopedSems0_eq]
  iintro ⟨Hw, Hz, HB, Hr⟩
  isplitl [HB Hw]
  · isplitl [HB]; · iexact HB
    iexact Hw
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by
      show levelOf (role (.dma ((cfg0.win w).sem s))) ≤ 0
      fin_cases w <;> fin_cases s <;> decide) (by
      rcases t with ⟨_ | _, ht⟩
      · exact above₀ c
      · exact Above.zero 0)

theorem share_eq (c : Dev nD) (w : Fin cfg0.W) : (dats m ρ 0 c).share w = fullShare := by unfold Dat.share; split <;> rfl

/-- What a final memory shows of device `c`: its unscoped counters at zero and its weights unchanged. -/
def seen (c : Dev nD) (s : MemSt nD τ sig (Elt F)) : Prop :=
  (∀ sm : SemLoc sig, sm.isScoped .tc = false → s.sem ((c.tc : Thread nD τ), sm) = 0)
    ∧ s.mem ((c : Thread nD τ).loc main_arg3) = m ((c : Thread nD τ).loc main_arg3)
    ∧ s.mem ((c : Thread nD τ).loc main_arg4) = m ((c : Thread nD τ).loc main_arg4)

theorem seen_intro (c : Dev nD) (s' : Phys nD τ sig (Elt F)) :
    iprop(left m ρ c ∗ emp ∗ SI s') ⊢ |={Set.univ}=> iprop(⌜seen m c s'.mem⌝ ∗ SI s') := by
  unfold left weights
  iintro ⟨⟨Hu, H3, H4⟩, -, HSI⟩
  icombine HSI H3 gives %h3
  icombine HSI H4 gives %h4
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨hu, Buf.eq_of_forall_mem_univ h3, Buf.eq_of_forall_mem_univ h4⟩
  iexact HSI

/-- What a window's array holds in the end. -/
def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ)
    (fun r => (∀ c : Dev nD, (∀ w : Fin cfg0.W, r.2.mem ((cfg0.win w).arr.view.loc (c : Thread nD τ)) = finalA m ρ c w) ∧ seen m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave ⟨HP, HX⟩ := (u₀_parts _ _) $$ Hu
      imod (fund m ρ) $$ HX with HG
      imodintro
      isplitl [HP]; · iexact HP
      iexact HG)
    (hglob := glob m ρ)
    (hA := fun _ _ => rfl) (hpf := fun _ k => k.elim0)
    (X := start m ρ) (Y := left m ρ) (Z := fun _ => iprop(emp))
    (hX := start_intro m ρ) (hin := region_in m ρ) (hout := region_out m ρ)
    (QY := seen m) (hY := seen_intro m ρ)
    (hQ := fun _ h hs => ⟨fun c => ⟨fun w => (h c).1 w, (h c).2.2⟩, sem_eq_zero hs fun c => (h c).2.2.1⟩)

/-! ## What the arrays hold -/

theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The run with the arrays named: the result, the five arguments, the counters. -/
theorem run_named : θ_run defs (onTc (τ := τ) (main (F := F))) (s₀ m ρ)
    (fun r => (∀ c : Dev nD, r.2.mem ((c : Thread nD τ).loc main_v1) = finalA m ρ c (3 : Fin 4)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => ⟨(h.1 c).1 (3 : Fin 4),
    ((h.1 c).1 (0 : Fin 4)).trans (finalA_in m ρ c (0 : Fin 4) rfl), ((h.1 c).1 (1 : Fin 4)).trans (finalA_in m ρ c (1 : Fin 4) rfl),
    ((h.1 c).1 (2 : Fin 4)).trans (finalA_in m ρ c (2 : Fin 4) rfl), (h.1 c).2.2.1, (h.1 c).2.2.2⟩, h.2⟩) (run_main m ρ)

end Cert.Routed

end
-- ==== Proof.Frames.lean ====
/-
# The programs run, keep their arguments and end quiescent

The kernel at the bit-exact floats and at the ideal ones is one text, so one run serves both. The reference is a host
program without semaphores.
-/
module

public import proofs.«01_k».proof.Defs
public import proofs.«01_k».proof.Proof.Gen.Kernel
public import proofs.«01_k».proof.Proof.Gen.Pre_fits_KernelIdeal
public import proofs.«01_k».proof.Proof.Gen.Pre_fits_ReferenceIdeal
public import proofs.«01_k».proof.Proof.Gen.ReferenceIdeal.Run
public import proofs.«01_k».proof.Proof.Launched

@[expose] public section

noncomputable section

namespace Cert.Routed

open Idealize.ShloMosaic Idealize.SL.Sem

/-! ## The two readings of the kernel are one program -/

set_option maxRecDepth 10000 in
theorem bodies_eq : Cert.Kernel.defs₀ (F := Bits) = Cert.KernelIdeal.defs₀ := by
  unfold Cert.Kernel.defs₀ Cert.KernelIdeal.defs₀
  refine congrArg Defs.onTc (funext fun l => ?_)
  match l with
  | (0 : Fin 1) => rfl

theorem tables_eq : Cert.Kernel.defs (F := Bits) = Cert.KernelIdeal.defs := by
  unfold Cert.Kernel.defs Cert.KernelIdeal.defs
  rw [bodies_eq]
  rfl

/-! ## The frames -/

theorem frame_kernel : Cert.quiescent_Kernel := fun m ρ _ => by
  rw [tables_eq]
  exact (θ_run Cert.KernelIdeal.defs _ _).mono (fun _ h => ⟨fun c => (h.1 c).2, h.2⟩) (run_named (F := Bits) m ρ)

theorem frame_kernelIdeal : Cert.quiescent_KernelIdeal := fun m ρ _ =>
  (θ_run Cert.KernelIdeal.defs _ _).mono (fun _ h => ⟨fun c => (h.1 c).2, h.2⟩) (run_named (F := Ideal) m ρ)

theorem frame_kernelIdeal_fits : Cert.quiescent_KernelIdeal_pre_fits_KernelIdeal := fun m ρ _ => frame_kernelIdeal m ρ trivial

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_fits : Cert.quiescent_ReferenceIdeal_pre_fits_ReferenceIdeal := fun m ρ _ => frame_referenceIdeal m ρ trivial

end Cert.Routed

end
-- ==== Proof.Marking.lean ====
/-
# Which row goes where in a packed block

A device packs, of a chunk of 256 rows, those whose expert belongs to one owner into a block of 96 places, in order:
the row's place is how many such rows there are up to and including it, less one. The device finds the places with a
product by a lower triangular matrix of ones, and writes them as a matrix of zeros and ones. Over the extended reals
that matrix is read here at one entry, and its two uses (gathering rows into places, and taking a row's place back out)
are read as sums with one term.
-/
module

public import proofs.«01_k».proof.Proof.Values
public import Idealize.ShloMosaic.Lib.Pointwise
public import Idealize.ShloMosaic.Lib.WordCmp

@[expose] public section

noncomputable section

namespace Cert.Routed

open Cert.KernelIdeal Cert.KernelIdeal.Gen
open Idealize.ShloMosaic

set_option maxRecDepth 16384

/-- Row `i` of the chunk chose an expert of owner `o`. -/
def Mine (o : BitVec 32) (idx : Vec Ideal S256x1 .i32) (i : Fin 256) : Prop :=
  IntOp.divsi ArithUnit.vector (idx (ix2 i 0)) 4#32 = o

instance (o : BitVec 32) (idx : Vec Ideal S256x1 .i32) : DecidablePred (Mine o idx) :=
  fun i => inferInstanceAs (Decidable (IntOp.divsi ArithUnit.vector (idx (ix2 i 0)) 4#32 = o))

/-- How many rows up to and including `i` chose an expert of owner `o`. -/
def rank (o : BitVec 32) (idx : Vec Ideal S256x1 .i32) (i : Fin 256) : ℕ :=
  (Finset.univ.filter fun j : Fin 256 => j ≤ i ∧ Mine o idx j).card

/-- The matrix of places, as the device computes it. -/
abbrev place (o : BitVec 32) (idx : Vec Ideal S256x1 .i32) : FVec Ideal S256x96 .bf16 :=
  k0_pay12 o (Given.tri (F := Ideal)) Given.io idx

theorem rank_le (o : BitVec 32) (idx : Vec Ideal S256x1 .i32) (i : Fin 256) : rank o idx i ≤ 256 :=
  (Finset.card_le_univ _).trans (by simp)

/-- A sum of ones and zeros is a count. -/
theorem sum_ones {n : ℕ} (p : Fin n → Prop) [DecidablePred p] :
    (∑ j : Fin n, if p j then (1 : EReal) else 0) = (((Finset.univ.filter p).card : ℝ) : EReal) := by
  rw [Finset.sum_boole]; simp

/-- A count below `2 ^ 31`, as a float read as an integer again. -/
theorem fptosi_count (k : ℕ) (h : k ≤ 256) : Ideal.fptosi 32 ((k : ℝ) : EReal) = BitVec.ofNat 32 k := by
  rw [Ideal.fptosi, Ideal.toIntClamped_coe, if_pos (by positivity), Int.floor_natCast, min_eq_right (by norm_num; exact_mod_cast (by omega : k ≤ 2147483647)),
    max_eq_right (by norm_num)]
  rfl

/-- A choice on the one-bit word of a proposition. -/
theorem select_ofBool {α : Type} (p : Prop) [Decidable p] (a b : α) :
    Scalar.select (BitVec.ofBool (decide p)) a b = if p then a else b := by
  by_cases h : p <;> simp [Scalar.select, h]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

/-- The number of places taken up to row `i`, as the matrix product computes it. -/
theorem sum_marks (o : BitVec 32) (idx : Vec Ideal S256x1 .i32) (i : Fin 256) :
    (∑ x : Fin 256, Scalar.select (IntOp.cmpi .eq (IntOp.divsi ArithUnit.vector (idx (ix2 x 0)) 4#32) o)
        (Scalar.select (IntOp.cmpi .sle (BitVec.ofNat 32 x.val) (BitVec.ofNat 32 i.val)) (1 : EReal) 0) 0)
      = ((rank o idx i : ℝ) : EReal) := by
  rw [rank, ← sum_ones]
  refine Finset.sum_congr rfl fun x _ => ?_
  rw [WordCmp.cmpi_eq_eq, WordCmp.cmpi_sle_ofNat (by have := x.isLt; omega) (by have := i.isLt; omega),
    select_ofBool, select_ofBool]
  show (if Mine o idx x then (if x.val ≤ i.val then (1 : EReal) else 0) else 0) = _
  by_cases h : Mine o idx x <;> by_cases h' : x ≤ i <;> simp [h, h', Fin.le_def.symm]

/-- The matrix of places at an entry: a one where row `i` is the owner's and has place `s`. -/
theorem place_apply (o : BitVec 32) (idx : Vec Ideal S256x1 .i32) (i : Fin 256) (s : Fin 96) :
    place o idx (ix2 i s) = if Mine o idx i ∧ s.val + 1 = rank o idx i then 1 else 0 := by
  pointwise [place, k0_pay12, k0_pay5]
  rw [show (FloatOps.fptosi 32 : Ideal .f32 → BitVec 32) = Ideal.fptosi 32 from rfl, sum_marks, fptosi_count _ (rank_le o idx i),
    WordCmp.cmpi_eq_eq, WordCmp.cmpi_eq_eq, andi_ofBool, select_ofBool]
  refine if_congr ?_ rfl rfl
  rw [and_comm]
  refine and_congr Iff.rfl ?_
  have hr := rank_le o idx i
  have hs := s.isLt
  show BitVec.ofNat 32 s.val = BitVec.ofNat 32 (rank o idx i) - 1#32 ↔ _
  constructor
  · intro h
    have := congrArg BitVec.toNat h
    simp only [BitVec.toNat_ofNat, BitVec.toNat_sub] at this
    omega
  · intro h
    rw [← h]
    apply BitVec.eq_of_toNat_eq
    simp only [BitVec.toNat_ofNat, BitVec.toNat_sub]
    omega

/-! ### One row for a place, one place for a row -/

theorem rank_pos {o : BitVec 32} {idx : Vec Ideal S256x1 .i32} {i : Fin 256} (h : Mine o idx i) : 0 < rank o idx i :=
  Finset.card_pos.2 ⟨i, Finset.mem_filter.2 ⟨Finset.mem_univ _, le_rfl, h⟩⟩

theorem rank_lt {o : BitVec 32} {idx : Vec Ideal S256x1 .i32} {i j : Fin 256} (hj : Mine o idx j) (h : i < j) :
    rank o idx i < rank o idx j := by
  refine Finset.card_lt_card ⟨fun a ha => ?_, fun hsub => ?_⟩
  · obtain ⟨_, h1, h2⟩ := Finset.mem_filter.1 ha
    exact Finset.mem_filter.2 ⟨Finset.mem_univ _, h1.trans h.le, h2⟩
  · have := hsub (Finset.mem_filter.2 ⟨Finset.mem_univ _, le_rfl, hj⟩)
    exact absurd (Finset.mem_filter.1 this).2.1 (not_le.2 h)

theorem rank_inj {o : BitVec 32} {idx : Vec Ideal S256x1 .i32} {i j : Fin 256} (hi : Mine o idx i) (hj : Mine o idx j)
    (h : rank o idx i = rank o idx j) : i = j := by
  rcases lt_trichotomy i j with hl | he | hl
  · exact absurd h (rank_lt hj hl).ne
  · exact he
  · exact absurd h.symm (rank_lt hi hl).ne

/-- No more than 96 rows of the chunk chose an expert of owner `o`. -/
def Fits (o : BitVec 32) (idx : Vec Ideal S256x1 .i32) : Prop := (Finset.univ.filter (Mine o idx)).card ≤ 96

theorem rank_le_of_fits {o : BitVec 32} {idx : Vec Ideal S256x1 .i32} (hf : Fits o idx) (i : Fin 256) : rank o idx i ≤ 96 :=
  (Finset.card_le_card fun _ ha => Finset.mem_filter.2 ⟨Finset.mem_univ _, (Finset.mem_filter.1 ha).2.2⟩).trans hf

/-- The place of a row. -/
def spot (o : BitVec 32) (idx : Vec Ideal S256x1 .i32) (hf : Fits o idx) (i : Fin 256) : Fin 96 :=
  ⟨rank o idx i - 1, by have := rank_le_of_fits hf i; omega⟩

/-- Row `i`'s place holds row `i`. -/
theorem sum_gather {o : BitVec 32} {idx : Vec Ideal S256x1 .i32} (hf : Fits o idx) {i : Fin 256} (hi : Mine o idx i)
    (g : Fin 256 → EReal) : (∑ j : Fin 256, place o idx (ix2 j (spot o idx hf i)) * g j) = g i := by
  have hp := rank_pos hi
  have hsp : (spot o idx hf i).val + 1 = rank o idx i := by show rank o idx i - 1 + 1 = _; omega
  rw [Finset.sum_eq_single i]
  · rw [place_apply, if_pos ⟨hi, hsp⟩, one_mul]
  · intro j _ hne
    rw [place_apply, if_neg, zero_mul]
    rintro ⟨hj, he⟩
    exact hne (rank_inj hj hi (he.symm.trans hsp))
  · exact fun h => absurd (Finset.mem_univ _) h

/-- The owner's row `i` reads its place. -/
theorem sum_take {o : BitVec 32} {idx : Vec Ideal S256x1 .i32} (hf : Fits o idx) {i : Fin 256} (hi : Mine o idx i)
    (h : Fin 96 → EReal) : (∑ s : Fin 96, place o idx (ix2 i s) * h s) = h (spot o idx hf i) := by
  have hp := rank_pos hi
  rw [Finset.sum_eq_single (spot o idx hf i)]
  · rw [place_apply, if_pos ⟨hi, by show rank o idx i - 1 + 1 = _; omega⟩, one_mul]
  · intro s _ hne
    rw [place_apply, if_neg, zero_mul]
    rintro ⟨_, he⟩
    exact hne (Fin.ext (by show s.val = rank o idx i - 1; omega))
  · exact fun h => absurd (Finset.mem_univ _) h

/-- Another row reads nothing. -/
theorem sum_take_not {o : BitVec 32} {idx : Vec Ideal S256x1 .i32} {i : Fin 256} (hi : ¬ Mine o idx i) (h : Fin 96 → EReal) :
    (∑ s : Fin 96, place o idx (ix2 i s) * h s) = 0 :=
  Finset.sum_eq_zero fun s _ => by rw [place_apply, if_neg fun hc => hi hc.1, zero_mul]

end Cert.Routed
end
-- ==== Proof.Products.lean ====
/-
# A packed block's products

From a chunk's rows, packed by owner `o`'s matrix of places, the owner computes four products, one for each of its
experts, of the packed rows that chose that expert (the others made zero), and adds them. A row that gets its place back
has one expert, so its share is that expert's product of the row alone.
-/
module

public import proofs.«01_k».proof.Proof.Marking

@[expose] public section

noncomputable section

namespace Cert.Routed

open Cert.KernelIdeal Cert.KernelIdeal.Gen
open Idealize.ShloMosaic

set_option maxRecDepth 16384

/-- The packed rows and the packed experts. -/
def packed (o : BitVec 32) (idx : Vec Ideal S256x1 .i32) (xs : Vec Ideal S256x512 .bf16) (s : Fin 96) (k : Fin 512) : EReal :=
  ∑ j : Fin 256, place o idx (ix2 j s) * xs (ix2 j k)
def packedIdx (o : BitVec 32) (idx : Vec Ideal S256x1 .i32) (ib : Vec Ideal S256x1 .bf16) (s : Fin 96) : EReal :=
  ∑ j : Fin 256, place o idx (ix2 j s) * ib (ix2 j 0)

/-- One expert's product at place `s`: the packed row, if the packed expert is `v`, by the expert's weights. -/
def term (p : Fin 96 → Fin 512 → EReal) (q : Fin 96 → EReal) (v : BitVec 32) (w : Vec Ideal S1x512x1024 .bf16)
    (s : Fin 96) (f : Fin 1024) : EReal :=
  ∑ k : Fin 512, (p s k * if q s = ((v.toInt : ℝ) : EReal) then 1 else 0) * w (ix3 0 k f)

/-- The owner's four products at place `s`. -/
def part (o : BitVec 32) (p : Fin 96 → Fin 512 → EReal) (q : Fin 96 → EReal) (w : Fin 4 → Vec Ideal S1x512x1024 .bf16)
    (s : Fin 96) (f : Fin 1024) : EReal :=
  ∑ e : Fin 4, term p q (o * 4#32 + BitVec.ofNat 32 e.val) (w e) s f

variable (a : Given Ideal) (c : Dev nD)

/-- The block a device packs and computes for the chunk two positions on. -/
theorem send1_apply (s : Fin 96) (f : Fin 1024) :
    a.send1 c (ix3 0 s f)
      = part (me c) (packed (me c) (a.farIdx c 1) (a.farXs c 1)) (packedIdx (me c) (a.farIdx c 1) (a.farIb c 1)) a.eb s f := by
  unfold part
  rw [Fin.sum_univ_four]
  pointwise [Given.send1, Given.p1, Given.p2, Given.p3, Given.ip1, Given.xp1, Given.m1, k0_pay13, k0_pay14, k0_pay16, k0_pay18, k0_pay20,
    k0_pay22, term, packed, packedIdx, place]
  rfl

/-- The block for the next chunk. -/
theorem send0_apply (s : Fin 96) (f : Fin 1024) :
    a.send0 c (ix3 0 s f)
      = part (me c) (packed (me c) (a.farIdx c 0) (a.farXs c 0)) (packedIdx (me c) (a.farIdx c 0) (a.farIb c 0)) a.eb s f := by
  unfold part
  rw [Fin.sum_univ_four]
  pointwise [Given.send0, Given.q1, Given.q2, Given.ip0, Given.xp0, k0_pay24, k0_pay25, k0_pay26, k0_pay27, k0_pay28, k0_pay29,
    term, packed, packedIdx, place]
  rfl

/-- The block for the chunk three positions on. -/
theorem send2_apply (s : Fin 96) (f : Fin 1024) :
    a.send2 c (ix3 0 s f)
      = part (me c) (packed (me c) (a.farIdx c 2) (a.farXs c 2)) (packedIdx (me c) (a.farIdx c 2) (a.farIb c 2)) a.eb s f := by
  unfold part
  rw [Fin.sum_univ_four]
  pointwise [Given.send2, Given.r1, Given.r2, Given.ip2, Given.xp2, Given.m2, k0_pay31, k0_pay32, k0_pay33, k0_pay34, k0_pay35,
    term, packed, packedIdx, place]
  rfl

/-- The own chunk: its share of the owner that the device is, and the shared expert. -/
theorem acc_apply (i : Fin 256) (f : Fin 1024) :
    a.acc c (ix2 i f)
      = (∑ s : Fin 96, place (me c) (a.ownIdx c) (ix2 i s) *
          part (me c) (packed (me c) (a.ownIdx c) (a.ownXs c)) (packedIdx (me c) (a.ownIdx c) (a.ownIb c)) a.eb s f)
        + ∑ k : Fin 512, a.ownRows c (ix2 i k) * a.s (ix2 k f) := by
  unfold part
  simp only [Fin.sum_univ_four]
  pointwise [Given.acc, Given.t1, Given.t2, Given.ip3, Given.xp3, Given.m3, Given.h3, k0_pay37, k0_pay38, k0_pay39, k0_pay40, k0_pay41,
   k0_pay42, k0_pay43, term, packed, packedIdx, place]
  rfl

/-! ### A row's share of an owner's products -/

/-- What row `i` of a chunk takes from owner `o`: the product of the row by the owner's expert that the row chose. -/
def share (o : Fin 4) (idx : Vec Ideal S256x1 .i32) (xs : Vec Ideal S256x512 .bf16) (w : Fin 4 → Vec Ideal S1x512x1024 .bf16)
    (i : Fin 256) (f : Fin 1024) : EReal :=
  ∑ e : Fin 4, if idx (ix2 i 0) = BitVec.ofNat 32 (4 * o.val + e.val) then ∑ k : Fin 512, xs (ix2 i k) * w e (ix3 0 k f) else 0

/-- The expert's number, as the device computes it. -/
theorem expert_word (o e : Fin 4) : BitVec.ofNat 32 o.val * 4#32 + BitVec.ofNat 32 e.val = BitVec.ofNat 32 (4 * o.val + e.val) := by
  revert o e; decide

/-- An expert's owner. -/
theorem owner_word (o e : Fin 4) : IntOp.divsi ArithUnit.vector (BitVec.ofNat 32 (4 * o.val + e.val)) 4#32 = BitVec.ofNat 32 o.val := by
  revert o e; decide

/-- One expert's product at the place of row `i`. -/
theorem term_spot {o : BitVec 32} {idx : Vec Ideal S256x1 .i32} (hf : Fits o idx) {i : Fin 256} (hi : Mine o idx i)
    (xs : Vec Ideal S256x512 .bf16) (ib : Vec Ideal S256x1 .bf16) (hib : ib (ix2 i 0) = (((idx (ix2 i 0)).toInt : ℝ) : EReal))
    (v : BitVec 32) (w : Vec Ideal S1x512x1024 .bf16) (f : Fin 1024) :
    term (packed o idx xs) (packedIdx o idx ib) v w (spot o idx hf i) f
      = if idx (ix2 i 0) = v then ∑ k : Fin 512, xs (ix2 i k) * w (ix3 0 k f) else 0 := by
  have hq : packedIdx o idx ib (spot o idx hf i) = (((idx (ix2 i 0)).toInt : ℝ) : EReal) :=
    (sum_gather hf hi fun j => ib (ix2 j 0)).trans hib
  have hp : ∀ k, packed o idx xs (spot o idx hf i) k = xs (ix2 i k) := fun k => sum_gather hf hi fun j => xs (ix2 j k)
  unfold term
  rw [hq]
  simp only [hp]
  by_cases h : idx (ix2 i 0) = v
  · rw [if_pos h, h]
    simp
  · have hne : ¬ (((idx (ix2 i 0)).toInt : ℝ) : EReal) = ((v.toInt : ℝ) : EReal) := fun he =>
      h (BitVec.eq_of_toInt_eq (by exact_mod_cast he))
    rw [if_neg h, if_neg hne]
    simp

/-- The row's share, from the owner's packed block. -/
theorem sum_share (o : Fin 4) (idx : Vec Ideal S256x1 .i32) (hf : Fits (BitVec.ofNat 32 o.val) idx)
    (xs : Vec Ideal S256x512 .bf16) (ib : Vec Ideal S256x1 .bf16) (hib : ∀ i, ib (ix2 i 0) = (((idx (ix2 i 0)).toInt : ℝ) : EReal))
    (w : Fin 4 → Vec Ideal S1x512x1024 .bf16) (i : Fin 256) (f : Fin 1024) :
    (∑ s : Fin 96, place (BitVec.ofNat 32 o.val) idx (ix2 i s) *
        part (BitVec.ofNat 32 o.val) (packed (BitVec.ofNat 32 o.val) idx xs) (packedIdx (BitVec.ofNat 32 o.val) idx ib) w s f)
      = share o idx xs w i f := by
  by_cases hi : Mine (BitVec.ofNat 32 o.val) idx i
  · rw [sum_take hf hi]
    refine Finset.sum_congr rfl fun e _ => ?_
    rw [term_spot hf hi xs ib (hib i), expert_word]
  · rw [sum_take_not hi]
    refine (Finset.sum_eq_zero fun e _ => if_neg fun he => hi ?_).symm
    unfold Mine
    rw [he, owner_word]

end Cert.Routed
end
-- ==== Proof.Shares.lean ====
/-
# A device's result as the owners' shares

The result of a device is the shared expert's product of its chunk, its own share, and from each block that it receives
the share of the device that sent it.
-/
module

public import proofs.«01_k».proof.Proof.Products
public import proofs.«01_k».proof.Proof.Protocol

@[expose] public section

noncomputable section

namespace Cert.Routed

open Cert.KernelIdeal Cert.KernelIdeal.Gen
open Idealize.ShloMosaic
open Idealize.ShloMosaic.TcCoe

set_option maxRecDepth 16384

/-- A device's position is its number. -/
theorem me_eq (c : Dev nD) : me c = BitVec.ofNat 32 c.val := by revert c; decide

/-- The position `k + 1` on from position `v`, around the ring of four, as the program computes it. -/
def ahead (v k : BitVec 32) : BitVec 32 :=
  let n : BitVec 32 := Scalar.select (Scalar.cmpi .eq 4#32 0#32) 1#32 4#32
  let r : BitVec 32 := Scalar.remsi (Scalar.addi (Scalar.addi v 1#32) k) n
  Scalar.select (Scalar.andi (Scalar.xori (Scalar.cmpi .slt r 0#32) (Scalar.cmpi .slt n 0#32)) (Scalar.cmpi .ne r 0#32))
    (Scalar.addi r n) r

theorem ahead_eq (c : Dev nD) (k : Fin 3) : ahead (me c) (BitVec.ofNat 32 k.val) = BitVec.ofNat 32 (peer c k).val := by
  revert c k; decide

variable (a : Given Ideal) (c : Dev nD)

/-- The places that the device reads a received block by are those of the block's sender. -/
theorem back0_eq : a.back0 c = place (BitVec.ofNat 32 (peer c 0).val) (a.ownIdx c) := by
  rw [← ahead_eq]; rfl
theorem back1_eq : a.back1 c = place (BitVec.ofNat 32 (peer c 1).val) (a.ownIdx c) := by
  rw [← ahead_eq]; rfl
theorem back2_eq : a.back2 c = place (BitVec.ofNat 32 (peer c 2).val) (a.ownIdx c) := by
  rw [← ahead_eq]; rfl

/-- The result at an entry: the own chunk, and the three received blocks read at the row's places. -/
theorem out_apply (got : Fin 3 → Vec Ideal S1x96x1024 .bf16) (i : Fin 256) (f : Fin 1024) :
    a.out c got (ix2 i f) = a.acc c (ix2 i f)
      + (∑ s : Fin 96, place (BitVec.ofNat 32 (peer c 1).val) (a.ownIdx c) (ix2 i s) * got 1 (ix3 0 s f))
      + (∑ s : Fin 96, place (BitVec.ofNat 32 (peer c 2).val) (a.ownIdx c) (ix2 i s) * got 2 (ix3 0 s f))
      + ∑ s : Fin 96, place (BitVec.ofNat 32 (peer c 0).val) (a.ownIdx c) (ix2 i s) * got 0 (ix3 0 s f) := by
  rw [← back0_eq, ← back1_eq, ← back2_eq]
  pointwise [Given.out, k0_pay44, k0_pay45]

/-- Any block a device sends, at an entry. -/
theorem send_apply (k : Fin 3) (s : Fin 96) (f : Fin 1024) :
    a.send c k (ix3 0 s f)
      = part (me c) (packed (me c) (a.farIdx c k) (a.farXs c k)) (packedIdx (me c) (a.farIdx c k) (a.farIb c k)) a.eb s f := by
  fin_cases k
  · exact send0_apply a c s f
  · exact send1_apply a c s f
  · exact send2_apply a c s f

/-! ### A chunk of the rows -/

/-- Row `i` of chunk `c`. -/
def row (c : Fin 4) (i : Fin 256) : Fin 1024 := ⟨256 * c.val + i.val, by have := c.isLt; have := i.isLt; omega⟩

theorem off1_eq (c : Dev nD) : k0_off1 c = ![256 * c.val, 0] := by revert c; decide
theorem off4_eq (c : Dev nD) : k0_off4 c = ![256 * c.val, 0] := by revert c; decide
theorem off2_eq (c : Dev nD) (k : Fin 3) : k0_off2 c (BitVec.ofNat 32 k.val) = ![256 * (peer c k).val, 0] := by revert c k; decide
theorem off3_eq (c : Dev nD) (k : Fin 3) : k0_off3 c (BitVec.ofNat 32 k.val) = ![256 * (peer c k).val, 0] := by revert c k; decide

/-- An entry of 256 rows that start at row `256 d`. -/
theorem rows_emb {n : ℕ} (off : Fin 2 → ℕ) (inb : ∀ a, off a + (![256, n] : Fin 2 → ℕ) a ≤ (⟨2, ![1024, n]⟩ : Shape).size a) (d : Fin 4)
    (h : off = ![256 * d.val, 0]) (i : Fin 256) (l : Fin n) :
    (Rect.unit (s := ⟨2, ![1024, n]⟩) off ![256, n] inb).emb (ix2 i l) = ix2 (row d i) l := by
  subst h
  funext b
  apply Fin.ext
  rw [Rect.emb_apply]
  fin_cases b
  · show 256 * d.val + 1 * i.val = 256 * d.val + i.val; omega
  · show 0 + 1 * l.val = l.val; omega

theorem ownI_emb (i : Fin 256) : (ownI c).emb (ix2 i 0) = ix2 (row c i) 0 := rows_emb _ _ c (off1_eq c) i 0
theorem ownX_emb (i : Fin 256) (k : Fin 512) : (ownX c).emb (ix2 i k) = ix2 (row c i) k := rows_emb _ _ c (off4_eq c) i k
theorem farI_emb (k : Fin 3) (i : Fin 256) : (farI c k).emb (ix2 i 0) = ix2 (row (peer c k) i) 0 :=
  rows_emb _ _ (peer c k) (off2_eq c k) i 0
theorem farX_emb (k : Fin 3) (i : Fin 256) (l : Fin 512) : (farX c k).emb (ix2 i l) = ix2 (row (peer c k) i) l :=
  rows_emb _ _ (peer c k) (off3_eq c k) i l

end Cert.Routed
end
-- ==== Proof.Entry.lean ====
/-
# A device's result at an entry

Four devices are given the same rows, router, chosen experts and shared expert, and each its own four experts. The entry
of a device's result is then the shared expert's product of the row, and over the four owners the row's shares.
-/
module

public import proofs.«01_k».proof.Proof.Shares

@[expose] public section

noncomputable section

namespace Cert.Routed

open Cert.KernelIdeal Cert.KernelIdeal.Gen
open Idealize.ShloMosaic
open Idealize.ShloMosaic.TcCoe

set_option maxRecDepth 16384

/-- Chunk `c` of the chosen experts, of the experts as floats, and of the scaled rows. -/
def chunkI (I : Vec Ideal S1024x1 .i32) (c : Fin 4) : Vec Ideal S256x1 .i32 := fun y => I (ix2 (row c (y 0)) 0)
def chunkB (I : Vec Ideal S1024x1 .i32) (c : Fin 4) : Vec Ideal S256x1 .bf16 := fun y => (((I (ix2 (row c (y 0)) 0)).toInt : ℝ) : EReal)
def chunkX (xs : Vec Ideal S1024x512 .bf16) (c : Fin 4) : Vec Ideal S256x512 .bf16 := fun y => xs (ix2 (row c (y 0)) (y 1))

section
variable (a : Given Ideal) (c : Dev nD)

theorem ib_apply (n : Fin 1024) : a.ib (ix2 n 0) = (((a.i (ix2 n 0)).toInt : ℝ) : EReal) := by
  pointwise [Given.ib, k0_pay4, k0_pay1]
  rfl

theorem ownIdx_eq : a.ownIdx c = chunkI a.i c := by
  funext y; idx_vars y
  rw [Fin.fin_one_eq_zero y1]
  exact congrArg a.i (ownI_emb c y0)
theorem farIdx_eq (k : Fin 3) : a.farIdx c k = chunkI a.i (peer c k) := by
  funext y; idx_vars y
  rw [Fin.fin_one_eq_zero y1]
  exact congrArg a.i (farI_emb c k y0)
theorem ownIb_eq : a.ownIb c = chunkB a.i c := by
  funext y; idx_vars y
  rw [Fin.fin_one_eq_zero y1]
  exact (congrArg a.ib (ownI_emb c y0)).trans (ib_apply a _)
theorem farIb_eq (k : Fin 3) : a.farIb c k = chunkB a.i (peer c k) := by
  funext y; idx_vars y
  rw [Fin.fin_one_eq_zero y1]
  exact (congrArg a.ib (farI_emb c k y0)).trans (ib_apply a _)
theorem ownXs_eq : a.ownXs c = chunkX a.xs c := by
  funext y; idx_vars y
  exact congrArg a.xs (ownX_emb c y0 y1)
theorem farXs_eq (k : Fin 3) : a.farXs c k = chunkX a.xs (peer c k) := by
  funext y; idx_vars y
  exact congrArg a.xs (farX_emb c k y0 y1)
theorem ownRows_apply (i : Fin 256) (k : Fin 512) : a.ownRows c (ix2 i k) = a.x (ix2 (row c i) k) := congrArg a.x (ownX_emb c i k)

/-- The weights as stored for the products are the weights. -/
theorem eb_eq : a.eb = a.w := by
  funext e y; idx_vars y
  rw [Fin.fin_one_eq_zero y0]
  fin_cases e <;> pointwise [Given.eb, k0_pay15, k0_pay17, k0_pay19, k0_pay21]

/-- The own chunk's part of the result. -/
theorem acc_share (hf : Fits (BitVec.ofNat 32 c.val) (chunkI a.i c)) (i : Fin 256) (f : Fin 1024) :
    a.acc c (ix2 i f) = share c (chunkI a.i c) (chunkX a.xs c) a.w i f + ∑ k : Fin 512, a.x (ix2 (row c i) k) * a.s (ix2 k f) := by
  rw [acc_apply, ownIdx_eq, ownXs_eq, ownIb_eq, eb_eq, me_eq, sum_share c _ hf _ _ (fun _ => rfl)]
  simp only [ownRows_apply]

/-- A received block's part of the result of the device it is sent to. -/
theorem send_share (k : Fin 3) (hf : Fits (BitVec.ofNat 32 c.val) (chunkI a.i (peer c k))) (i : Fin 256) (f : Fin 1024) :
    (∑ s : Fin 96, place (BitVec.ofNat 32 c.val) (chunkI a.i (peer c k)) (ix2 i s) * a.send c k (ix3 0 s f))
      = share c (chunkI a.i (peer c k)) (chunkX a.xs (peer c k)) a.w i f := by
  simp only [send_apply]
  rw [farIdx_eq, farXs_eq, farIb_eq, eb_eq, me_eq, sum_share c _ hf _ _ (fun _ => rfl)]

end

/-- The four devices: oneself, and the three others. -/
theorem sum_devices (c : Dev nD) (g : Dev nD → EReal) (z : EReal) :
    g c + z + g (peer c 1) + g (peer c 2) + g (peer c 0) = z + ∑ o : Fin 4, g o := by
  rw [Fin.sum_univ_four]
  fin_cases c
  · show g 0 + z + g 2 + g 3 + g 1 = z + (g 0 + g 1 + g 2 + g 3); ac_rfl
  · show g 1 + z + g 3 + g 0 + g 2 = z + (g 0 + g 1 + g 2 + g 3); ac_rfl
  · show g 2 + z + g 0 + g 1 + g 3 = z + (g 0 + g 1 + g 2 + g 3); ac_rfl
  · show g 3 + z + g 1 + g 2 + g 0 = z + (g 0 + g 1 + g 2 + g 3); ac_rfl

variable (A : Dev nD → Given Ideal) (X : Vec Ideal S1024x512 .f32) (I : Vec Ideal S1024x1 .i32) (S : Vec Ideal S512x1024 .f32)
  (xs : Vec Ideal S1024x512 .bf16)

/-- The entry of device `c`'s result in row `i` of its chunk. -/
theorem out_entry (hx : ∀ c, (A c).x = X) (hi : ∀ c, (A c).i = I) (hs : ∀ c, (A c).s = S) (hxs : ∀ c, (A c).xs = xs)
    (hf : ∀ o c : Fin 4, Fits (BitVec.ofNat 32 o.val) (chunkI I c)) (c : Dev nD) (i : Fin 256) (f : Fin 1024) :
    (A c).out c (fun j => (A (peer c j)).send (peer c j) j.rev) (ix2 i f)
      = (∑ k : Fin 512, X (ix2 (row c i) k) * S (ix2 k f)) + ∑ o : Fin 4, share o (chunkI I c) (chunkX xs c) (A o).w i f := by
  have hsend : ∀ k : Fin 3, (∑ s : Fin 96, place (BitVec.ofNat 32 (peer c k).val) (chunkI I c) (ix2 i s)
        * (A (peer c k)).send (peer c k) k.rev (ix3 0 s f))
      = share (peer c k) (chunkI I c) (chunkX xs c) (A (peer c k)).w i f := by
    intro k
    have h := send_share (A (peer c k)) (peer c k) k.rev (by rw [hi]; exact hf _ _) i f
    rw [peer_peer, hi, hxs] at h
    exact h
  rw [out_apply, ownIdx_eq, hi, hsend 1, hsend 2, hsend 0, acc_share (A c) c (by rw [hi]; exact hf _ _), hi, hxs, hx, hs]
  exact sum_devices c (fun o => share o (chunkI I c) (chunkX xs c) (A o).w i f) _

end Cert.Routed
end
-- ==== Proof.Router.lean ====
/-
# The router's probabilities

A row's scores, their softmax, and the device's scaled rows, over the extended reals.
-/
module

public import proofs.«01_k».proof.Proof.Entry

@[expose] public section

noncomputable section

namespace Cert.Routed

open Cert.KernelIdeal Cert.KernelIdeal.Gen
open Idealize.ShloMosaic
open Idealize.ShloMosaic.TcCoe

set_option maxRecDepth 16384

variable (X : Vec Ideal S1024x512 .f32) (R : Vec Ideal S512x16 .f32)

/-- Row `n`'s score for expert `e`, the row's greatest score, and its probability of `e`. -/
def score (n : Fin 1024) (e : Fin 16) : EReal := ∑ k : Fin 512, X (ix2 n k) * R (ix2 k e)
def top (n : Fin 1024) : EReal := Finset.fold max (Ideal.ofBits .f32 0xFF800000#32) (fun e => score X R n e) Finset.univ
def weight (n : Fin 1024) (e : Fin 16) : EReal := Ideal.exp (score X R n e - top X R n)
def prob (n : Fin 1024) (e : Fin 16) : EReal := Ideal.div (weight X R n e) (∑ e' : Fin 16, weight X R n e')

/-- A device's scaled row: the row times the probability of the chosen expert, which is zero if there is no such expert. -/
theorem xs_apply (a : Given Ideal) (n : Fin 1024) (k : Fin 512) :
    a.xs (ix2 n k) = a.x (ix2 n k) * ∑ e : Fin 16, if a.i (ix2 n 0) = BitVec.ofNat 32 e.val then prob a.x a.r n e else 0 := by
  have h : ∀ e : Fin 16, Scalar.select (IntOp.cmpi .eq (BitVec.ofNat 32 e.val) (a.i (ix2 n 0))) (prob a.x a.r n e) 0
      = if a.i (ix2 n 0) = BitVec.ofNat 32 e.val then prob a.x a.r n e else 0 := fun e => by
    rw [WordCmp.cmpi_eq_eq, select_ofBool]
    exact if_congr eq_comm rfl rfl
  simp only [← h]
  pointwise [Given.xs, k0_pay3, k0_pay2, k0_pay1]
  rfl

/-- Nothing is above the greatest score's start, minus infinity. -/
theorem start_bot : Ideal.ofBits .f32 0xFF800000#32 = ⊥ := by
  simp [Ideal.ofBits, Ideal.ieee]

/-- A sum of reals is a real. -/
theorem coe_sum_real {n : ℕ} (u : Fin n → ℝ) : ((∑ k, u k : ℝ) : EReal) = ∑ k, ((u k : ℝ) : EReal) := by
  induction n with
  | zero => simp
  | succ n ih => rw [Fin.sum_univ_succ, Fin.sum_univ_succ, EReal.coe_add, ih]

/-- A finite sum of products of reals. -/
theorem sum_coe {n : ℕ} (u v : Fin n → ℝ) : (∑ k, ((u k : ℝ) : EReal) * ((v k : ℝ) : EReal)) = ((∑ k, u k * v k : ℝ) : EReal) := by
  simp only [← EReal.coe_mul]
  rw [← coe_sum_real]

/-- The greatest of finitely many reals, one at least, is a real. -/
theorem fold_max_coe (u : Fin 16 → ℝ) : ∃ t : ℝ, Finset.fold max (⊥ : EReal) (fun e => ((u e : ℝ) : EReal)) Finset.univ = ((t : ℝ) : EReal) := by
  have h1 : Finset.fold max (⊥ : EReal) (fun e => ((u e : ℝ) : EReal)) Finset.univ ≠ ⊥ := by
    have : ((u 0 : ℝ) : EReal) ≤ Finset.fold max (⊥ : EReal) (fun e => ((u e : ℝ) : EReal)) Finset.univ :=
      Finset.le_fold_max _ |>.2 (Or.inr ⟨0, Finset.mem_univ _, le_rfl⟩)
    exact fun h => EReal.coe_ne_bot _ (le_bot_iff.1 (h ▸ this))
  have h2 : Finset.fold max (⊥ : EReal) (fun e => ((u e : ℝ) : EReal)) Finset.univ < ⊤ :=
    (Finset.fold_max_lt _).2 ⟨bot_lt_top, fun e _ => EReal.coe_lt_top _⟩
  exact ⟨_, (EReal.coe_toReal h2.ne h1).symm⟩

/-- With finite rows and a finite router, a probability is a nonnegative real. -/
theorem prob_real (hX : ∀ j, ∃ u : ℝ, X j = (u : EReal)) (hR : ∀ j, ∃ u : ℝ, R j = (u : EReal)) (n : Fin 1024) (e : Fin 16) :
    ∃ p : ℝ, 0 ≤ p ∧ prob X R n e = ((p : ℝ) : EReal) := by
  choose x hx using hX
  choose r hr using hR
  have hs : ∀ e, score X R n e = ((∑ k : Fin 512, x (ix2 n k) * r (ix2 k e) : ℝ) : EReal) := fun e => by
    unfold score
    simp only [hx, hr]
    exact sum_coe _ _
  obtain ⟨t, ht⟩ := fold_max_coe fun e => ∑ k : Fin 512, x (ix2 n k) * r (ix2 k e)
  have htop : top X R n = ((t : ℝ) : EReal) := by
    unfold top
    simp only [hs, start_bot]
    exact ht
  have hw : ∀ e, weight X R n e = ((Real.exp (∑ k : Fin 512, x (ix2 n k) * r (ix2 k e) - t) : ℝ) : EReal) := fun e => by
    unfold weight
    rw [hs, htop, ← EReal.coe_sub, Ideal.exp_coe]
  have hsum : (∑ e' : Fin 16, weight X R n e') = ((∑ e' : Fin 16, Real.exp (∑ k : Fin 512, x (ix2 n k) * r (ix2 k e') - t) : ℝ) : EReal) := by
    simp only [hw]
    rw [← coe_sum_real]
  have hpos : 0 < ∑ e' : Fin 16, Real.exp (∑ k : Fin 512, x (ix2 n k) * r (ix2 k e') - t) :=
    Finset.sum_pos (fun _ _ => Real.exp_pos _) ⟨0, Finset.mem_univ _⟩
  refine ⟨Real.exp (∑ k : Fin 512, x (ix2 n k) * r (ix2 k e) - t) / ∑ e' : Fin 16, Real.exp (∑ k : Fin 512, x (ix2 n k) * r (ix2 k e') - t),
    div_nonneg (Real.exp_pos _).le hpos.le, ?_⟩
  unfold prob
  rw [hsum, hw, Ideal.div, if_neg (by exact_mod_cast hpos.ne'), ← EReal.coe_inv, ← EReal.coe_mul, div_eq_mul_inv]

end Cert.Routed
end
-- ==== Proof.Reference.lean ====
/-
# What the reference computes

The reference's result as one function of its five arguments, and its entries over the extended reals: the shared
expert's product of the row, and for each expert its product of the row times the row's probability of the expert, if
the row chose it.
-/
module

public import proofs.«01_k».proof.Proof.Router
public import proofs.«01_k».proof.Proof.Gen.ReferenceIdeal.Run

@[expose] public section

noncomputable section

namespace Cert.Routed

open Idealize.ShloMosaic
open Idealize.ShloMosaic.TcCoe
open Idealize.SL.Sem

set_option maxRecDepth 16384

section
open Cert.ReferenceIdeal Cert.ReferenceIdeal.Gen

variable {F : FTy → Type} [FloatOps F]

/-- The reference's result. -/
def refOut (X : FVec F S1024x512 .f32) (R : FVec F S512x16 .f32) (I : IVec S1024x1 32) (W : FVec F S16x512x1024 .f32)
    (S : FVec F S512x1024 .f32) : FVec F S1024x1024 .f32 :=
  have scores : FVec F S1024x16 .f32 := Host.dotGeneral dot_S1024x512_S512x16_S1024x16_1_0_0_1_n_n none X R
  have exps : FVec F S1024x16 .f32 := Host.exp (subf scores (broadcastInDim S1024x16 ![0, 1] bcast_S1024x1_S1024x16_0_1
    (broadcastInDim S1024x1 ![0] bcast_S1024_S1024x1_0 (Host.reduce FloatOps.maximumf scores (constant S_ .f32 0xFF800000#32)
    reducesTo_S1024x16_S1024_d1 h_S_))))
  have total : FVec F S1024x16 .f32 := broadcastInDim S1024x16 ![0, 1] bcast_S1024x1_S1024x16_0_1 (broadcastInDim S1024x1
    ![0] bcast_S1024_S1024x1_0
    (Host.reduceAdd exps (constant S_ .f32 0x00000000#32) reducesTo_S1024x16_S1024_d1 h_S_))
  have gate : FVec F S1024x16 .f32 := select (cmpi .eq (broadcastInDim S1024x16 ![0, 1] bcast_S1024x1_S1024x16_0_1 I)
    (broadcastInDim S1024x16 ![0, 1] bcast_S1x16_S1024x16_0_1 (broadcastInDim S1x16 ![1] bcast_S16_S1x16_1 (iotaInDim S16 32
    0)))) (Host.divf exps total) (broadcastInDim S1024x16 ![] bcast_S_S1024x16 (id (constant S_ .f32 0x00000000#32)))
  addf (Host.dotGeneral dot_S1024x512_S512x1024_S1024x1024_1_0_0_1_n_n none X S) (Host.reduceAdd (mulf (broadcastInDim
    S1024x16x1024 ![0, 1, 2] bcast_S1024x16x1_S1024x16x1024_0_1_2 (broadcastInDim S1024x16x1 ![0, 1]
    bcast_S1024x16_S1024x16x1_0_1 gate)) (Host.dotGeneral dot_S1024x512_S16x512x1024_S1024x16x1024_1_1_0_02_n_n none X W))
    (constant S_ .f32 0x00000000#32) reducesTo_S1024x16x1024_S1024x1024_d1 h_S_)

/-- The reference's run: its result is that function of its arguments, which are unchanged. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v22) = refOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Cert.ReferenceIdeal.Value.run m ρ

end

open Cert.KernelIdeal

/-- A factor can be moved inside a choice between a number and zero. -/
theorem gated (b : BitVec 1) (p t : EReal) : Scalar.select b p 0 * t = Scalar.select b (p * t) 0 := by
  unfold Scalar.select
  split <;> simp

/-- The reference's entry. -/
theorem refOut_apply (X : Vec Ideal S1024x512 .f32) (R : Vec Ideal S512x16 .f32) (I : Vec Ideal S1024x1 .i32)
    (W : Vec Ideal Cert.ReferenceIdeal.S16x512x1024 .f32) (S : Vec Ideal S512x1024 .f32) (n f : Fin 1024) :
    refOut (F := Ideal) X R I W S (ix2 n f) = (∑ k : Fin 512, X (ix2 n k) * S (ix2 k f))
      + ∑ e : Fin 16, (if I (ix2 n 0) = BitVec.ofNat 32 e.val then prob X R n e else 0) * ∑ k : Fin 512, X (ix2 n k) * W (ix3 e k f) := by
  have h : ∀ e : Fin 16, Scalar.select (IntOp.cmpi .eq (I (ix2 n 0)) (BitVec.ofNat 32 e.val)) (prob X R n e) 0
      = if I (ix2 n 0) = BitVec.ofNat 32 e.val then prob X R n e else 0 := fun e => by
    rw [WordCmp.cmpi_eq_eq, select_ofBool]
  simp only [← h]
  generalize hr : (∑ k : Fin 512, X (ix2 n k) * S (ix2 k f)) + ∑ e : Fin 16, Scalar.select (IntOp.cmpi .eq (I (ix2 n 0))
    (BitVec.ofNat 32 e.val)) (prob X R n e) 0 * ∑ k : Fin 512, X (ix2 n k) * W (ix3 e k f) = r
  pointwise [refOut, id]
  rw [← hr]
  refine congrArg₂ (· + ·) rfl (Finset.sum_congr rfl fun e _ => ?_)
  rw [gated]
  rfl

end Cert.Routed
end
-- ==== Proof.Equation.lean ====
/-
# The equation

The device scales a row by its probability before the experts' products, the reference scales the products. Over the
extended reals the two agree because a probability is a nonnegative real, which a sum can be multiplied by term by term.
-/
module

public import proofs.«01_k».proof.Proof.Reference

@[expose] public section

noncomputable section

namespace Cert.Routed

open Cert.KernelIdeal Cert.KernelIdeal.Gen
open Idealize.ShloMosaic
open Idealize.ShloMosaic.TcCoe

set_option maxRecDepth 16384

/-- Expert `e` of owner `o`, among all sixteen. -/
def expert (o e : Fin 4) : Fin 16 := ⟨4 * o.val + e.val, by omega⟩

/-- Sixteen experts are four owners' four. -/
theorem sum_experts (g : Fin 16 → EReal) : (∑ e : Fin 16, g e) = ∑ o : Fin 4, ∑ e : Fin 4, g (expert o e) := by
  have h : (∑ e : Fin 16, g e) = ∑ q : Fin 4 × Fin 4, g ((finProdFinEquiv (m := 4) (n := 4)) q) :=
    ((finProdFinEquiv (m := 4) (n := 4)).sum_comp g).symm
  rw [h, Fintype.sum_prod_type]
  refine Finset.sum_congr rfl fun o _ => Finset.sum_congr rfl fun e _ => congrArg g (Fin.ext ?_)
  show e.val + 4 * o.val = 4 * o.val + e.val
  omega

/-- The experts' numbers differ. -/
theorem expert_inj {e e' : Fin 16} (h : BitVec.ofNat 32 e.val = BitVec.ofNat 32 e'.val) : e = e' := by
  have h' := congrArg BitVec.toNat h
  simp only [BitVec.toNat_ofNat] at h'
  exact Fin.ext (by omega)

/-- Of the sixteen, a row that chose `e` chose no other. -/
theorem sum_chosen (v : BitVec 32) (e : Fin 16) (hv : v = BitVec.ofNat 32 e.val) (g : Fin 16 → EReal) :
    (∑ e' : Fin 16, if v = BitVec.ofNat 32 e'.val then g e' else 0) = g e := by
  rw [Finset.sum_eq_single e (fun e' _ hne => if_neg fun h => hne (expert_inj (hv ▸ h)).symm) (fun h => absurd (Finset.mem_univ e) h),
    if_pos hv]

/-- A nonnegative real multiplies a sum term by term. -/
theorem real_mul_sum {n : ℕ} (p : ℝ) (hp : 0 ≤ p) (g : Fin n → EReal) : (p : EReal) * (∑ k, g k) = ∑ k, (p : EReal) * g k := by
  induction n with
  | zero => simp
  | succ n ih =>
    rw [Fin.sum_univ_succ, Fin.sum_univ_succ, EReal.left_distrib_of_nonneg_of_ne_top (by exact_mod_cast hp) (EReal.coe_ne_top p), ih]

variable (X : Vec Ideal S1024x512 .f32) (R : Vec Ideal S512x16 .f32) (I : Vec Ideal S1024x1 .i32)
  (W : Vec Ideal Cert.ReferenceIdeal.S16x512x1024 .f32) (xs : Vec Ideal S1024x512 .bf16)
  (w : Fin 4 → Fin 4 → Vec Ideal S1x512x1024 .bf16)

/-- A row's shares of the four owners, from the scaled rows, are the scaled products of the reference. -/
theorem shares_eq (hX : ∀ j, ∃ u : ℝ, X j = (u : EReal)) (hR : ∀ j, ∃ u : ℝ, R j = (u : EReal))
    (hxs : ∀ n k, xs (ix2 n k) = X (ix2 n k) * ∑ e : Fin 16, if I (ix2 n 0) = BitVec.ofNat 32 e.val then prob X R n e else 0)
    (hw : ∀ o e k f, w o e (ix3 0 k f) = W (ix3 (expert o e) k f)) (c : Dev nD) (i : Fin 256) (f : Fin 1024) :
    (∑ o : Fin 4, share o (chunkI I c) (chunkX xs c) (w o) i f)
      = ∑ e : Fin 16, (if I (ix2 (row c i) 0) = BitVec.ofNat 32 e.val then prob X R (row c i) e else 0)
          * ∑ k : Fin 512, X (ix2 (row c i) k) * W (ix3 e k f) := by
  rw [sum_experts]
  refine Finset.sum_congr rfl fun o _ => Finset.sum_congr rfl fun e _ => ?_
  show (if I (ix2 (row c i) 0) = BitVec.ofNat 32 (expert o e).val then
    ∑ k : Fin 512, xs (ix2 (row c i) k) * w o e (ix3 0 k f) else 0) = _
  by_cases h : I (ix2 (row c i) 0) = BitVec.ofNat 32 (expert o e).val
  · obtain ⟨p, hp, hpe⟩ := prob_real X R hX hR (row c i) (expert o e)
    rw [if_pos h, if_pos h, hpe, real_mul_sum p hp]
    refine Finset.sum_congr rfl fun k _ => ?_
    rw [hxs, hw, sum_chosen _ _ h, hpe]
    ac_rfl
  · rw [if_neg h, if_neg h, zero_mul]

end Cert.Routed
end
-- ==== Proof.Held.lean ====
/-
# What the arrays hold

A staged block of the rows, of the router's weights and of the chosen experts is the whole array; the result array ends
as the one block written to it. So the run of the program leaves each device's result as its body computes it.
-/
module

public import proofs.«01_k».proof.Proof.Launched
public import proofs.«01_k».proof.Proof.Shares

@[expose] public section

noncomputable section

namespace Cert.Routed

open Cert.KernelIdeal Cert.KernelIdeal.Gen
open Idealize.ShloMosaic
open Idealize.ShloMosaic.TcCoe
open Idealize.SL.Sem
open Idealize.ShloMosaic.Rounds
open Idealize.ShloMosaic.Pipeline (Dat BodyObligation)

set_option maxRecDepth 16384

variable {F : FTy → Type} [FloatOps F]
variable (m : (ℓ : Loc nD τ sig) → Buf (Elt F) ℓ) (ρ : Dev nD → PrngReg)

theorem given_x (c : Dev nD) : (given m ρ c).x = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem given_r (c : Dev nD) : (given m ρ c).r = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem given_i (c : Dev nD) : (given m ρ c).i = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

theorem given_s (c : Dev nD) : (given m ρ c).s = m ((c : Thread nD τ).loc main_arg4) := rfl

/-- A slab is one expert's weights. -/
theorem given_w (c : Dev nD) (e : Fin 4) (k : Fin 512) (f : Fin 1024) :
    (given m ρ c).w e (ix3 0 k f) = m ((c : Thread nD τ).loc main_arg3) (ix3 e k f) := by
  refine congrArg (m ((c : Thread nD τ).loc main_arg3)) ?_
  funext a
  apply Fin.ext
  fin_cases e <;> fin_cases a <;> simp [slab, ix3]

/-- The block written is the block the body leaves. -/
theorem finalA_read (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1),
    show (cfg0.win (3 : Fin 4)).flush (0 : Fin 1) = true from by decide, if_pos rfl]
  exact View.read_write_univ _ _

/-- The result array ends as the body leaves it. -/
theorem finalA_eq (c : Dev nD) : finalA m ρ c (3 : Fin 4) = outAt m ρ c := by
  have hz : (fun a => (win0_3.index (0 : Fin 1)) a * main_v1.ty.shape.size a) = fun _ => 0 :=
    funext fun a => by fin_cases a <;> decide
  exact (Memref.read_access_unit_zero (Elt F) main_v1 hz (fun a => by fin_cases a <;> decide) _).symm.trans (finalA_read m ρ c)

end Cert.Routed
end
-- ==== Proof.Fitting.lean ====
/-
# What the precondition says

Of a device's arguments: each chunk of 256 rows has at most 96 rows for any one owner, and the rows and the router's
weights are reals.
-/
module

public import proofs.«01_k».proof.Defs
public import proofs.«01_k».proof.Proof.Gen.Pre_fits_KernelIdeal
public import proofs.«01_k».proof.Proof.Entry
public import Idealize.ShloMosaic.Lib.ReduceAll
public import Idealize.ShloMosaic.Lib.IndicatorCount

@[expose] public section

noncomputable section

namespace Cert.Routed

open Cert.Pre_fits_KernelIdeal Cert.Pre_fits_KernelIdeal.Gen
open Idealize.ShloMosaic

set_option maxRecDepth 16384

/-- How many rows of each chunk go to each owner, as the precondition counts them. -/
def counts (I : IVec S1024x1 32) : IVec S4x4 32 :=
  Host.reduce IntOp.addi
    (fn_where (F := Ideal) (cmpi .eq
      (broadcastInDim S4x256x4 ![0, 1, 2] Facts.bcast_S4x256x1_S4x256x4_0_1_2
        (Host.divsi (shapeCast S4x256x1 I Facts.shapeCasts_S1024x1_S4x256x1) (broadcastInDim S4x256x1 ![] Facts.bcast_S_S4x256x1 (constantI S_ 32 4#32))))
      (broadcastInDim S4x256x4 ![0, 1, 2] Facts.bcast_S1x1x4_S4x256x4_0_1_2
        (broadcastInDim S1x1x4 ![2] Facts.bcast_S4_S1x1x4_2 (iotaInDim S4 32 0))))
      (constantI S_ 32 1#32) (constantI S_ 32 0#32))
    (constantI S_ 32 0#32) Facts.reducesTo_S4x256x4_S4x4_d1 Facts.h_S_

/-- The precondition's three parts. -/
theorem fits_parts (X : FVec Ideal S1024x512 .f32) (R : FVec Ideal S512x16 .f32) (I : IVec S1024x1 32)
    (W : FVec Ideal S4x512x1024 .f32) (S : FVec Ideal S512x1024 .f32) (h : fn (F := Ideal) X R I W S = fun _ => 1#1) :
    (∀ j, IntOp.cmpi .sle (counts I j) 96#32 = 1#1)
      ∧ (∀ j, Ideal.cmp .olt (max (X j) (-X j)) (Ideal.ofBits .f32 0x7F800000#32) = 1#1)
      ∧ (∀ j, Ideal.cmp .olt (max (R j) (-R j)) (Ideal.ofBits .f32 0x7F800000#32) = 1#1) := by
  haveI : Subsingleton S_.Idx := ⟨fun a b => funext fun q => q.elim0⟩
  obtain ⟨hc, hf⟩ := IntOp.andi_eq_one.1 (congrFun h ix0)
  obtain ⟨hx, hr⟩ := IntOp.andi_eq_one.1 hf
  exact ⟨fun j => Host.reduce_andi_all _ _ _ _ _ hc j, fun j => Host.reduce_andi_all _ _ _ _ _ hx j,
    fun j => Host.reduce_andi_all _ _ _ _ _ hr j⟩

/-- An extended real with absolute value below infinity is a real. -/
theorem real_of_below (a : EReal) (h : Ideal.cmp .olt (max a (-a)) (Ideal.ofBits .f32 0x7F800000#32) = 1#1) : ∃ u : ℝ, a = (u : EReal) := by
  have ht : Ideal.ofBits .f32 0x7F800000#32 = ⊤ := by simp [Ideal.ofBits, Ideal.ieee]
  rw [ht] at h
  induction a with
  | bot => simp [Ideal.cmp] at h
  | top => simp [Ideal.cmp] at h
  | coe u => exact ⟨u, rfl⟩

/-- The host and the device divide by four alike. -/
theorem div_four (v : BitVec 32) : IntOp.divsi ArithUnit.host v 4#32 = IntOp.divsi ArithUnit.vector v 4#32 := by
  have h : ¬ IntOp.SDivCorner v 4#32 := fun h => by rcases h with h | ⟨_, h⟩ <;> revert h <;> decide
  simp only [IntOp.divsi, if_neg h]

/-- The precondition's count is the number of a chunk's rows that are one owner's. -/
theorem counts_apply (I : IVec S1024x1 32) (c o : Fin 4) :
    counts I (ix2 c o) = BitVec.ofNat 32 (Finset.univ.filter (Mine (BitVec.ofNat 32 o.val) (chunkI I c))).card := by
  pointwise [counts, fn_where]
  have hp : ∀ x : Fin 256, Scalar.select (IntOp.cmpi .eq (IntOp.divsi ArithUnit.host (I (ix2 ⟨c.val * 256 + x.val, by omega⟩ 0)) 4#32)
      (BitVec.ofNat 32 o.val)) 1#32 0#32 = (BitVec.ofBool (decide (Mine (BitVec.ofNat 32 o.val) (chunkI I c) x))).setWidth 32 := fun x => by
    have hrow : (⟨c.val * 256 + x.val, by omega⟩ : Fin 1024) = row c x :=
      Fin.ext (show c.val * 256 + x.val = 256 * c.val + x.val by omega)
    rw [hrow, div_four, WordCmp.cmpi_eq_eq, select_ofBool]
    show (if Mine (BitVec.ofNat 32 o.val) (chunkI I c) x then 1#32 else 0#32) = _
    by_cases h : Mine (BitVec.ofNat 32 o.val) (chunkI I c) x <;> simp [h]
  refine (Finset.fold_congr fun x _ => hp x).trans ?_
  rw [IndicatorCount.fold_addi_setWidth_eq_card]
  refine congrArg (fun q : Finset (Fin 256) => BitVec.ofNat 32 q.card) (Finset.filter_congr fun x _ => ?_)
  by_cases h : Mine (BitVec.ofNat 32 o.val) (chunkI I c) x <;> simp [h]

/-- At most 96 of a chunk's 256 rows go to one owner. -/
theorem fits_of_count (I : IVec S1024x1 32) (c o : Fin 4) (h : IntOp.cmpi .sle (counts I (ix2 c o)) 96#32 = 1#1) :
    Fits (BitVec.ofNat 32 o.val) (chunkI I c) := by
  have hle : (Finset.univ.filter (Mine (BitVec.ofNat 32 o.val) (chunkI I c))).card ≤ 256 := (Finset.card_le_univ _).trans (by simp)
  rw [counts_apply, show (96#32 : BitVec 32) = BitVec.ofNat 32 96 from rfl, WordCmp.cmpi_sle_ofNat (by omega) (by omega)] at h
  unfold Fits
  by_contra hn
  simp [hn] at h

/-- What the precondition says of a device's arguments. -/
theorem fits_said (X : FVec Ideal S1024x512 .f32) (R : FVec Ideal S512x16 .f32) (I : IVec S1024x1 32)
    (W : FVec Ideal S4x512x1024 .f32) (S : FVec Ideal S512x1024 .f32) (h : fn (F := Ideal) X R I W S = fun _ => 1#1) :
    (∀ o c : Fin 4, Fits (BitVec.ofNat 32 o.val) (chunkI I c)) ∧ (∀ j, ∃ u : ℝ, X j = (u : EReal)) ∧ ∀ j, ∃ u : ℝ, R j = (u : EReal) :=
  have hp := fits_parts X R I W S h
  ⟨fun o c => fits_of_count I c o (hp.1 _), fun j => real_of_below _ (hp.2.1 j), fun j => real_of_below _ (hp.2.2 j)⟩

end Cert.Routed
end
-- ==== Proof.Algebraic.lean ====
/-
# The value claim

From memories where each device holds its part of the reference's arguments, and under the precondition, both programs
end, and each device's result is its chunk of 256 rows of the reference's result.
-/
module

public import proofs.«01_k».proof.Proof.Equation
public import proofs.«01_k».proof.Proof.Held
public import proofs.«01_k».proof.Proof.Fitting

@[expose] public section

noncomputable section

namespace Cert.Routed

open Cert.KernelIdeal Cert.KernelIdeal.Gen
open Idealize.ShloMosaic
open Idealize.ShloMosaic.TcCoe
open Idealize.SL.Sem

set_option maxRecDepth 16384

/-- Block `c` of the result is the rows of chunk `c`. -/
theorem block_rows (v : Vec Ideal Cert.ReferenceIdeal.S1024x1024 .f32) (c : Fin 4) (i : Fin 256) (f : Fin 1024) :
    (Layout.block ⟨2, ![256, 1024]⟩ ⟨2, ![1024, 1024]⟩ 0 4 c v) (ix2 i f) = v (ix2 (row c i) f) := by
  rw [Layout.block_apply]
  refine congrArg v (funext fun a => Fin.ext ?_)
  fin_cases a
  · show c.val * 256 + i.val = 256 * c.val + i.val
    omega
  · rfl

/-- Block `o` of the experts' weights is the four experts of owner `o`. -/
theorem block_experts (v : Vec Ideal Cert.ReferenceIdeal.S16x512x1024 .f32) (o e : Fin 4) (k : Fin 512) (f : Fin 1024) :
    (Layout.block ⟨3, ![4, 512, 1024]⟩ ⟨3, ![16, 512, 1024]⟩ 0 4 o v) (ix3 e k f) = v (ix3 (expert o e) k f) := by
  rw [Layout.block_apply]
  refine congrArg v (funext fun a => Fin.ext ?_)
  fin_cases a
  · show o.val * 4 + e.val = 4 * o.val + e.val
    omega
  · rfl
  · rfl

/-- What a device's body computes is its chunk of the reference's result. -/
theorem outAt_eq (m : (ℓ : Loc nD τ sig) → Buf (Elt Ideal) ℓ) (ρ : Dev nD → PrngReg)
    (X : Vec Ideal S1024x512 .f32) (R : Vec Ideal S512x16 .f32) (I : Vec Ideal S1024x1 .i32)
    (W : Vec Ideal Cert.ReferenceIdeal.S16x512x1024 .f32) (S : Vec Ideal S512x1024 .f32)
    (hX : ∀ c : Dev nD, m ((c : Thread nD τ).loc main_arg0) = X) (hR : ∀ c : Dev nD, m ((c : Thread nD τ).loc main_arg1) = R)
    (hI : ∀ c : Dev nD, m ((c : Thread nD τ).loc main_arg2) = I)
    (hW : ∀ c : Dev nD, m ((c : Thread nD τ).loc main_arg3) = Layout.block ⟨3, ![4, 512, 1024]⟩ ⟨3, ![16, 512, 1024]⟩ 0 4 c W)
    (hS : ∀ c : Dev nD, m ((c : Thread nD τ).loc main_arg4) = S)
    (hf : ∀ o c : Fin 4, Fits (BitVec.ofNat 32 o.val) (chunkI I c))
    (fX : ∀ j, ∃ u : ℝ, X j = (u : EReal)) (fR : ∀ j, ∃ u : ℝ, R j = (u : EReal)) (c : Dev nD) :
    outAt m ρ c = Layout.block ⟨2, ![256, 1024]⟩ ⟨2, ![1024, 1024]⟩ 0 4 c (refOut (F := Ideal) X R I W S) := by
  have gx : ∀ c, (given m ρ c).x = X := fun c => (given_x m ρ c).trans (hX c)
  have gr : ∀ c, (given m ρ c).r = R := fun c => (given_r m ρ c).trans (hR c)
  have gi : ∀ c, (given m ρ c).i = I := fun c => (given_i m ρ c).trans (hI c)
  have gs : ∀ c, (given m ρ c).s = S := fun c => (given_s m ρ c).trans (hS c)
  have gxs : ∀ c n k, (given m ρ c).xs (ix2 n k)
      = X (ix2 n k) * ∑ e : Fin 16, if I (ix2 n 0) = BitVec.ofNat 32 e.val then prob X R n e else 0 := fun c n k => by
    rw [xs_apply, gx, gr, gi]
  have same : ∀ d, (given m ρ d).xs = (given m ρ c).xs := fun d => by
    funext y; idx_vars y
    rw [gxs, gxs]
  have gw : ∀ o e k f, (given m ρ o).w e (ix3 0 k f) = W (ix3 (expert o e) k f) := fun o e k f => by
    rw [given_w, hW]
    exact block_experts W o e k f
  funext y; idx_vars y
  refine Eq.trans ?_ (block_rows _ c y0 y1).symm
  rw [refOut_apply, ← shares_eq X R I W (given m ρ c).xs (fun o => (given m ρ o).w) fX fR (gxs c) gw c y0 y1]
  exact out_entry (given m ρ) X I S (given m ρ c).xs gx gi gs same hf c y0 y1

/-- The value claim. -/
theorem algebraic : Cert.algebraic_KernelIdeal_ReferenceIdeal_pre_fits_KernelIdeal (hKernelIdeal := Cert.KernelIdeal.Gen.facts)
    (hReferenceIdeal := Cert.ReferenceIdeal.Gen.facts) (hPre_fits_KernelIdeal := Cert.Pre_fits_KernelIdeal.Gen.facts) := by
  intro m g m' g' hpre hargs
  have hs := fits_said _ _ _ _ _ (hpre (0 : Dev nD))
  rw [(hargs 0).1, (hargs 0).2.1, (hargs 0).2.2.1] at hs
  refine ⟨refOut (F := Ideal) _ _ _ _ _, (θ_run defs _ _).mono ?_ (run_named m g),
    (θ_run Cert.ReferenceIdeal.defs _ _).mono (fun r h => h (0 : Dev Cert.ReferenceIdeal.nD)) (run_reference m' g')⟩
  intro r h c
  obtain ⟨h1, h2⟩ := h.1 c
  refine ⟨h1.trans ((finalA_eq m g c).trans ?_), h2⟩
  exact outAt_eq m g _ _ _ _ _ (fun c => (hargs c).1) (fun c => (hargs c).2.1) (fun c => (hargs c).2.2.1) (fun c => (hargs c).2.2.2.1)
    (fun c => (hargs c).2.2.2.2) hs.1 hs.2.1 hs.2.2 c

end Cert.Routed
end
-- ==== Proof.lean ====
/-
# The claims together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_fits_KernelIdeal
public import proofs.«01_k».proof.Proof.Gen.Pre_fits_ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem
open Cert.Routed

/-- The frames, the preservation and the value claim. -/
theorem claim : Cert.Claim :=
  ⟨Cert.Kernel.Gen.facts, Cert.KernelIdeal.Gen.facts, Cert.ReferenceIdeal.Gen.facts, Cert.Pre_fits_KernelIdeal.Gen.facts,
    Cert.Pre_fits_ReferenceIdeal.Gen.facts, frame_kernel, frame_kernelIdeal, frame_kernelIdeal_fits, frame_referenceIdeal,
    frame_referenceIdeal_fits, trivial, algebraic⟩

end Cert.Proof

end
